-- ==== Defs.lean ====
def Pre_Kernel [hPre_idx_in_vocab : Cert.Pre_idx_in_vocab.Facts] (m : (ℓ : Loc Cert.Kernel.nD Cert.Kernel.τ Cert.Kernel.sig) → Buf (Elt Bits) ℓ) : Prop :=
  ∀ c : Dev Cert.Kernel.nD,
    (Cert.Pre_idx_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_idx_in_vocab : Cert.Pre_idx_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2 = (fun _ => 1#1)

def quiescent_Kernel [hKernel : Cert.Kernel.Facts] [hPre_idx_in_vocab : Cert.Pre_idx_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_len" .f32 0x3BA3D70A#32 ((200⁻¹ : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_idx_in_vocab : Cert.Pre_idx_in_vocab.Facts) (hPre_in_domain : Cert.Pre_in_domain.Facts),
    quiescent_Kernel (hKernel := hKernel) (hPre_idx_in_vocab := hPre_idx_in_vocab)
    ∧ quiescent_KernelIdeal (hKernelIdeal := hKernelIdeal) (hPre_idx_in_vocab := hPre_idx_in_vocab)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_idx_in_vocab.lean ====
abbrev S4096x200 : Shape := ⟨2, ![4096, 200]⟩
abbrev S100000x128 : Shape := ⟨2, ![100000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x11 : Shape := ⟨2, ![256, 11]⟩
abbrev S11 : Shape := ⟨1, ![11]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : IVec S4096x200 32) (main_arg1 : FVec F S100000x128 .f32) (main_arg2 : FVec F S128x512 .f32) (main_arg3 : FVec F S512 .f32) (main_arg4 : FVec F S512 .f32) (main_arg5 : FVec F S512 .f32) (main_arg6 : FVec F S512 .f32) (main_arg7 : FVec F S512 .f32) (main_arg8 : FVec F S512x256 .f32) (main_arg9 : FVec F S256 .f32) (main_arg10 : FVec F S256 .f32) (main_arg11 : FVec F S256 .f32) (main_arg12 : FVec F S256 .f32) (main_arg13 : FVec F S256 .f32) (main_arg14 : FVec F S256x11 .f32) (main_arg15 : FVec F S11 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  main_v4
-- ==== Pre_in_domain.lean ====
abbrev S4096x200 : Shape := ⟨2, ![4096, 200]⟩
abbrev S100000x128 : Shape := ⟨2, ![100000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x11 : Shape := ⟨2, ![256, 11]⟩
abbrev S11 : Shape := ⟨1, ![11]⟩
abbrev S_ : Shape := ⟨0, ![]⟩

class Facts : Prop where
  bcast_S_S512 : S_.BroadcastsInDim S512 (![] : Fin 0 → Fin S512.rank)
  bcast_S_S256 : S_.BroadcastsInDim S256 (![] : Fin 0 → Fin S256.rank)
  bcast_S_S4096x200 : S_.BroadcastsInDim S4096x200 (![] : Fin 0 → Fin S4096x200.rank)

variable [Facts]

def fn_part2 {F : FTy → Type} [FloatOps F] (main_v15 : IVec S512 1) (main_v31 : IVec S256 1) (main_v33 : IVec S4096x200 1) (main_v35 : IVec S4096x200 1) : IVec S4096x200 1 × IVec S512 1 × IVec S256 1 :=
  let main_v36 : IVec S4096x200 1 := andi main_v33 main_v35
  (main_v36, main_v15, main_v31)

def fn_part1 {F : FTy → Type} [FloatOps F] (main_arg0 : IVec S4096x200 32) (main_arg10 : FVec F S256 .f32) (main_arg12 : FVec F S256 .f32) (main_arg13 : FVec F S256 .f32) (main_v15 : IVec S512 1) (main_v16 : FVec F S256 .f32) (main_v17 : FVec F S256 .f32) : IVec S4096x200 1 × IVec S512 1 × IVec S256 1 :=
  let main_v18 : IVec S256 1 := cmpf .olt main_v16 main_v17
  let main_v19 : FVec F S256 .f32 := Host.absf main_arg10
  let main_cst_5 : FVec F S_ .f32 := constant S_ .f32 0x7F800000#32
  let main_v20 : FVec F S256 .f32 := broadcastInDim S256 ![] bcast_S_S256 main_cst_5
  let main_v21 : IVec S256 1 := cmpf .olt main_v19 main_v20
  let main_v22 : IVec S256 1 := andi main_v18 main_v21
  let main_v23 : FVec F S256 .f32 := Host.absf main_arg12
  let main_cst_6 : FVec F S_ .f32 := constant S_ .f32 0x7F800000#32
  let main_v24 : FVec F S256 .f32 := broadcastInDim S256 ![] bcast_S_S256 main_cst_6
  let main_v25 : IVec S256 1 := cmpf .olt main_v23 main_v24
  let main_v26 : IVec S256 1 := andi main_v22 main_v25
  let main_cst_7 : FVec F S_ .f32 := constant S_ .f32 0x3727C5AC#32
  let main_v27 : FVec F S256 .f32 := broadcastInDim S256 ![] bcast_S_S256 main_cst_7
  let main_v28 : FVec F S256 .f32 := addf main_arg13 main_v27
  let main_cst_8 : FVec F S_ .f32 := constant S_ .f32 0x00000000#32
  let main_v29 : FVec F S256 .f32 := broadcastInDim S256 ![] bcast_S_S256 main_cst_8
  let main_v30 : IVec S256 1 := cmpf .ogt main_v28 main_v29
  let main_v31 : IVec S256 1 := andi main_v26 main_v30
  let main_c : IVec S_ 32 := constantI S_ 32 0#32
  let main_v32 : IVec S4096x200 32 := broadcastInDim S4096x200 ![] bcast_S_S4096x200 main_c
  let main_v33 : IVec S4096x200 1 := cmpi .sge main_arg0 main_v32
  let main_c_9 : IVec S_ 32 := constantI S_ 32 100000#32
  let main_v34 : IVec S4096x200 32 := broadcastInDim S4096x200 ![] bcast_S_S4096x200 main_c_9
  let main_v35 : IVec S4096x200 1 := cmpi .slt main_arg0 main_v34
  fn_part2 (F := F) main_v15 main_v31 main_v33 main_v35

def fn {F : FTy → Type} [FloatOps F] (main_arg0 : IVec S4096x200 32) (main_arg1 : FVec F S100000x128 .f32) (main_arg2 : FVec F S128x512 .f32) (main_arg3 : FVec F S512 .f32) (main_arg4 : FVec F S512 .f32) (main_arg5 : FVec F S512 .f32) (main_arg6 : FVec F S512 .f32) (main_arg7 : FVec F S512 .f32) (main_arg8 : FVec F S512x256 .f32) (main_arg9 : FVec F S256 .f32) (main_arg10 : FVec F S256 .f32) (main_arg11 : FVec F S256 .f32) (main_arg12 : FVec F S256 .f32) (main_arg13 : FVec F S256 .f32) (main_arg14 : FVec F S256x11 .f32) (main_arg15 : FVec F S11 .f32) : IVec S4096x200 1 × IVec S512 1 × IVec S256 1 :=
  let main_v0 : FVec F S512 .f32 := Host.absf main_arg3
  let main_cst : FVec F S_ .f32 := constant S_ .f32 0x7F800000#32
  let main_v1 : FVec F S512 .f32 := broadcastInDim S512 ![] bcast_S_S512 main_cst
  let main_v2 : IVec S512 1 := cmpf .olt main_v0 main_v1
  let main_v3 : FVec F S512 .f32 := Host.absf main_arg4
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : IVec S512 1 := andi main_v2 main_v5
  let main_v7 : FVec F S512 .f32 := Host.absf main_arg6
  let main_cst_1 : FVec F S_ .f32 := constant S_ .f32 0x7F800000#32
  let main_v8 : FVec F S512 .f32 := broadcastInDim S512 ![] bcast_S_S512 main_cst_1
  let main_v9 : IVec S512 1 := cmpf .olt main_v7 main_v8
  let main_v10 : IVec S512 1 := andi main_v6 main_v9
  let main_cst_2 : FVec F S_ .f32 := constant S_ .f32 0x3727C5AC#32
  let main_v11 : FVec F S512 .f32 := broadcastInDim S512 ![] bcast_S_S512 main_cst_2
  let main_v12 : FVec F S512 .f32 := addf main_arg7 main_v11
  let main_cst_3 : FVec F S_ .f32 := constant S_ .f32 0x00000000#32
  let main_v13 : FVec F S512 .f32 := broadcastInDim S512 ![] bcast_S_S512 main_cst_3
  let main_v14 : IVec S512 1 := cmpf .ogt main_v12 main_v13
  let main_v15 : IVec S512 1 := andi main_v10 main_v14
  let main_v16 : FVec F S256 .f32 := Host.absf main_arg9
  let main_cst_4 : FVec F S_ .f32 := constant S_ .f32 0x7F800000#32
  let main_v17 : FVec F S256 .f32 := broadcastInDim S256 ![] bcast_S_S256 main_cst_4
  fn_part1 (F := F) main_arg0 main_arg10 main_arg12 main_arg13 main_v15 main_v16 main_v17
-- ==== Kernel.lean ====
abbrev S4096x200 : Shape := ⟨2, ![4096, 200]⟩
abbrev S100000x128 : Shape := ⟨2, ![100000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x11 : Shape := ⟨2, ![256, 11]⟩
abbrev S11 : Shape := ⟨1, ![11]⟩
abbrev S4096x4x50 : Shape := ⟨3, ![4096, 4, 50]⟩
abbrev S4096x128 : Shape := ⟨2, ![4096, 128]⟩
abbrev S128x4x50 : Shape := ⟨3, ![128, 4, 50]⟩
abbrev S8x50x128 : Shape := ⟨3, ![8, 50, 128]⟩
abbrev S32x128 : Shape := ⟨2, ![32, 128]⟩
abbrev S_ : Shape := ⟨0, ![]⟩
abbrev S1x50x128 : Shape := ⟨3, ![1, 50, 128]⟩
abbrev S50x128 : Shape := ⟨2, ![50, 128]⟩
abbrev S1x1x50 : Shape := ⟨3, ![1, 1, 50]⟩
abbrev S50 : Shape := ⟨1, ![50]⟩
abbrev S16 : Shape := ⟨1, ![16]⟩
abbrev S1x1x16 : Shape := ⟨3, ![1, 1, 16]⟩
abbrev S1x16 : Shape := ⟨2, ![1, 16]⟩
abbrev S1x512 : Shape := ⟨2, ![1, 512]⟩
abbrev S5x512 : Shape := ⟨2, ![5, 512]⟩
abbrev S1x256 : Shape := ⟨2, ![1, 256]⟩
abbrev S5x256 : Shape := ⟨2, ![5, 256]⟩
abbrev S1x11 : Shape := ⟨2, ![1, 11]⟩
abbrev S4096x11 : Shape := ⟨2, ![4096, 11]⟩
abbrev S2048x128 : Shape := ⟨2, ![2048, 128]⟩
abbrev S2048x11 : Shape := ⟨2, ![2048, 11]⟩
abbrev S2048x512 : Shape := ⟨2, ![2048, 512]⟩
abbrev S2048x256 : Shape := ⟨2, ![2048, 256]⟩

abbrev nBuf : Table → Nat
  | .hbm => 32
  | .local .tc .vmem => 10
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x11, .f32⟩
  | .hbm, ⟨15, _⟩ => ⟨S11, .f32⟩
  | .hbm, ⟨16, _⟩ => ⟨S4096x4x50, .i32⟩
  | .hbm, ⟨17, _⟩ => ⟨S4096x128, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S5x512, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S5x256, .f32⟩
  | .hbm, ⟨30, _⟩ => ⟨S1x11, .f32⟩
  | .hbm, ⟨31, _⟩ => ⟨S4096x11, .f32⟩
  | .local .tc .vmem, ⟨0, _⟩ => ⟨S2048x128, .f32⟩
  | .local .tc .vmem, ⟨1, _⟩ => ⟨S2048x128, .f32⟩
  | .local .tc .vmem, ⟨2, _⟩ => ⟨S128x512, .f32⟩
  | .local .tc .vmem, ⟨3, _⟩ => ⟨S5x512, .f32⟩
  | .local .tc .vmem, ⟨4, _⟩ => ⟨S512x256, .f32⟩
  | .local .tc .vmem, ⟨5, _⟩ => ⟨S5x256, .f32⟩
  | .local .tc .vmem, ⟨6, _⟩ => ⟨S256x11, .f32⟩
  | .local .tc .vmem, ⟨7, _⟩ => ⟨S1x11, .f32⟩
  | .local .tc .vmem, ⟨8, _⟩ => ⟨S2048x11, .f32⟩
  | .local .tc .vmem, ⟨9, _⟩ => ⟨S2048x11, .f32⟩
  | .local .scVector .vmem, ⟨0, _⟩ => ⟨S128x4x50, .i32⟩
  | .local .scVector .vmem, ⟨1, _⟩ => ⟨S8x50x128, .f32⟩
  | .local .scVector .vmem, ⟨2, _⟩ => ⟨S32x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v0_scv : Ref sig .scVector := ⟨.hbm, 16, rfl⟩
abbrev main_arg1_scv : Ref sig .scVector := ⟨.hbm, 1, rfl⟩
abbrev main_v1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_68_r0 : BitVec 32 := 0#32
  let c0_i32_69_r0 : BitVec 32 := 0#32
  ![v2.toNat, 0, 0]
@[reducible] def k0_t1_loop : Scf.Loop 32 :=
  let c0_i32_65 : BitVec 32 := 0#32
  let c64_i32 : BitVec 32 := 64#32
  let v51 : BitVec 32 := Scalar.addi c0_i32_65 c64_i32
  let c1_i32_66 : BitVec 32 := 1#32
  ⟨c0_i32_65, v51, c1_i32_66⟩
@[reducible] def k0_t2_loop : Scf.Loop 32 :=
  let c0_i32_78 : BitVec 32 := 0#32
  let c50_i32 : BitVec 32 := 50#32
  let v60 : BitVec 32 := Scalar.addi c0_i32_78 c50_i32
  let c1_i32_79 : BitVec 32 := 1#32
  ⟨c0_i32_78, v60, c1_i32_79⟩
def k0_off2 (k0_t2 : Fin k0_t2_loop.trips) : Fin 3 → Nat :=
  let c0_i32_210 : BitVec 32 := 0#32
  let v239 : Index := Scalar.indexCast c0_i32_210
  let c0_i32_78 : BitVec 32 := 0#32
  let c1_i32_79 : BitVec 32 := 1#32
  let arg18 : BitVec 32 := Scf.iv c0_i32_78 c1_i32_79 k0_t2
  let v240 : Index := Scalar.indexCast arg18
  let c0_211 : Index := 0#32
  ![0, v240.toNat, 0]
def k0_off3 (k0_t2 : Fin k0_t2_loop.trips) : Fin 3 → Nat :=
  let c0_i32_212 : BitVec 32 := 0#32
  let v244 : Index := Scalar.indexCast c0_i32_212
  let c0_i32_78 : BitVec 32 := 0#32
  let c1_i32_79 : BitVec 32 := 1#32
  let arg18 : BitVec 32 := Scf.iv c0_i32_78 c1_i32_79 k0_t2
  let v245 : Index := Scalar.indexCast arg18
  let c16_213 : Index := 16#32
  ![0, v245.toNat, 16]
def k0_off4 (k0_t2 : Fin k0_t2_loop.trips) : Fin 3 → Nat :=
  let c0_i32_214 : BitVec 32 := 0#32
  let v249 : Index := Scalar.indexCast c0_i32_214
  let c0_i32_78 : BitVec 32 := 0#32
  let c1_i32_79 : BitVec 32 := 1#32
  let arg18 : BitVec 32 := Scf.iv c0_i32_78 c1_i32_79 k0_t2
  let v250 : Index := Scalar.indexCast arg18
  let c32_215 : Index := 32#32
  ![0, v250.toNat, 32]
def k0_off5 (k0_t2 : Fin k0_t2_loop.trips) : Fin 3 → Nat :=
  let c0_i32_216 : BitVec 32 := 0#32
  let v254 : Index := Scalar.indexCast c0_i32_216
  let c0_i32_78 : BitVec 32 := 0#32
  let c1_i32_79 : BitVec 32 := 1#32
  let arg18 : BitVec 32 := Scf.iv c0_i32_78 c1_i32_79 k0_t2
  let v255 : Index := Scalar.indexCast arg18
  let c48_217 : Index := 48#32
  ![0, v255.toNat, 48]
def k0_off6 (k0_t2 : Fin k0_t2_loop.trips) : Fin 3 → Nat :=
  let c0_i32_218 : BitVec 32 := 0#32
  let v259 : Index := Scalar.indexCast c0_i32_218
  let c0_i32_78 : BitVec 32 := 0#32
  let c1_i32_79 : BitVec 32 := 1#32
  let arg18 : BitVec 32 := Scf.iv c0_i32_78 c1_i32_79 k0_t2
  let v260 : Index := Scalar.indexCast arg18
  let c64_219 : Index := 64#32
  ![0, v260.toNat, 64]
def k0_off7 (k0_t2 : Fin k0_t2_loop.trips) : Fin 3 → Nat :=
  let c0_i32_220 : BitVec 32 := 0#32
  let v264 : Index := Scalar.indexCast c0_i32_220
  let c0_i32_78 : BitVec 32 := 0#32
  let c1_i32_79 : BitVec 32 := 1#32
  let arg18 : BitVec 32 := Scf.iv c0_i32_78 c1_i32_79 k0_t2
  let v265 : Index := Scalar.indexCast arg18
  let c80_221 : Index := 80#32
  ![0, v265.toNat, 80]
def k0_off8 (k0_t2 : Fin k0_t2_loop.trips) : Fin 3 → Nat :=
  let c0_i32_222 : BitVec 32 := 0#32
  let v269 : Index := Scalar.indexCast c0_i32_222
  let c0_i32_78 : BitVec 32 := 0#32
  let c1_i32_79 : BitVec 32 := 1#32
  let arg18 : BitVec 32 := Scf.iv c0_i32_78 c1_i32_79 k0_t2
  let v270 : Index := Scalar.indexCast arg18
  let c96_223 : Index := 96#32
  ![0, v270.toNat, 96]
def k0_off9 (k0_t2 : Fin k0_t2_loop.trips) : Fin 3 → Nat :=
  let c0_i32_224 : BitVec 32 := 0#32
  let v274 : Index := Scalar.indexCast c0_i32_224
  let c0_i32_78 : BitVec 32 := 0#32
  let c1_i32_79 : BitVec 32 := 1#32
  let arg18 : BitVec 32 := Scf.iv c0_i32_78 c1_i32_79 k0_t2
  let v275 : Index := Scalar.indexCast arg18
  let c112_225 : Index := 112#32
  ![0, v275.toNat, 112]
def k0_cond1 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32 : BitVec 32 := 63#32
  let v62 : BitVec 1 := Scalar.cmpi .slt arg16 c63_i32
  let v63 : BitVec 32 := Scalar.extui v62
  let c0_i32_81 : BitVec 32 := 0#32
  let v64 : BitVec 1 := Scalar.cmpi .ne v63 c0_i32_81
  v64

def k0_off10 (k0_t1 : Fin k0_t1_loop.trips) : Fin 3 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let c0_i32_69 : BitVec 32 := 0#32
  let v54 : BitVec 32 := Scalar.addi v53 c0_i32_69
  let c2_i32_210 : BitVec 32 := 2#32
  let v239 : BitVec 32 := Scalar.addi v54 c2_i32_210
  let c0_i32_211 : BitVec 32 := 0#32
  let c0_i32_215 : BitVec 32 := 0#32
  ![v239.toNat, 0, 0]
@[reducible] def k0_t3_loop : Scf.Loop 32 :=
  let c0_i32_90 : BitVec 32 := 0#32
  let c50_i32_91 : BitVec 32 := 50#32
  let v70 : BitVec 32 := Scalar.addi c0_i32_90 c50_i32_91
  let c1_i32_92 : BitVec 32 := 1#32
  ⟨c0_i32_90, v70, c1_i32_92⟩
def k0_off11 (k0_t3 : Fin k0_t3_loop.trips) : Fin 3 → Nat :=
  let c1_i32_210 : BitVec 32 := 1#32
  let v239 : Index := Scalar.indexCast c1_i32_210
  let c0_i32_90 : BitVec 32 := 0#32
  let c1_i32_92 : BitVec 32 := 1#32
  let arg18 : BitVec 32 := Scf.iv c0_i32_90 c1_i32_92 k0_t3
  let v240 : Index := Scalar.indexCast arg18
  let c0_211 : Index := 0#32
  ![1, v240.toNat, 0]
def k0_off12 (k0_t3 : Fin k0_t3_loop.trips) : Fin 3 → Nat :=
  let c1_i32_212 : BitVec 32 := 1#32
  let v244 : Index := Scalar.indexCast c1_i32_212
  let c0_i32_90 : BitVec 32 := 0#32
  let c1_i32_92 : BitVec 32 := 1#32
  let arg18 : BitVec 32 := Scf.iv c0_i32_90 c1_i32_92 k0_t3
  let v245 : Index := Scalar.indexCast arg18
  let c16_213 : Index := 16#32
  ![1, v245.toNat, 16]
def k0_off13 (k0_t3 : Fin k0_t3_loop.trips) : Fin 3 → Nat :=
  let c1_i32_214 : BitVec 32 := 1#32
  let v249 : Index := Scalar.indexCast c1_i32_214
  let c0_i32_90 : BitVec 32 := 0#32
  let c1_i32_92 : BitVec 32 := 1#32
  let arg18 : BitVec 32 := Scf.iv c0_i32_90 c1_i32_92 k0_t3
  let v250 : Index := Scalar.indexCast arg18
  let c32_215 : Index := 32#32
  ![1, v250.toNat, 32]
def k0_off14 (k0_t3 : Fin k0_t3_loop.trips) : Fin 3 → Nat :=
  let c1_i32_216 : BitVec 32 := 1#32
  let v254 : Index := Scalar.indexCast c1_i32_216
  let c0_i32_90 : BitVec 32 := 0#32
  let c1_i32_92 : BitVec 32 := 1#32
  let arg18 : BitVec 32 := Scf.iv c0_i32_90 c1_i32_92 k0_t3
  let v255 : Index := Scalar.indexCast arg18
  let c48_217 : Index := 48#32
  ![1, v255.toNat, 48]
def k0_off15 (k0_t3 : Fin k0_t3_loop.trips) : Fin 3 → Nat :=
  let c1_i32_218 : BitVec 32 := 1#32
  let v259 : Index := Scalar.indexCast c1_i32_218
  let c0_i32_90 : BitVec 32 := 0#32
  let c1_i32_92 : BitVec 32 := 1#32
  let arg18 : BitVec 32 := Scf.iv c0_i32_90 c1_i32_92 k0_t3
  let v260 : Index := Scalar.indexCast arg18
  let c64_219 : Index := 64#32
  ![1, v260.toNat, 64]
def k0_off16 (k0_t3 : Fin k0_t3_loop.trips) : Fin 3 → Nat :=
  let c1_i32_220 : BitVec 32 := 1#32
  let v264 : Index := Scalar.indexCast c1_i32_220
  let c0_i32_90 : BitVec 32 := 0#32
  let c1_i32_92 : BitVec 32 := 1#32
  let arg18 : BitVec 32 := Scf.iv c0_i32_90 c1_i32_92 k0_t3
  let v265 : Index := Scalar.indexCast arg18
  let c80_221 : Index := 80#32
  ![1, v265.toNat, 80]
def k0_off17 (k0_t3 : Fin k0_t3_loop.trips) : Fin 3 → Nat :=
  let c1_i32_222 : BitVec 32 := 1#32
  let v269 : Index := Scalar.indexCast c1_i32_222
  let c0_i32_90 : BitVec 32 := 0#32
  let c1_i32_92 : BitVec 32 := 1#32
  let arg18 : BitVec 32 := Scf.iv c0_i32_90 c1_i32_92 k0_t3
  let v270 : Index := Scalar.indexCast arg18
  let c96_223 : Index := 96#32
  ![1, v270.toNat, 96]
def k0_off18 (k0_t3 : Fin k0_t3_loop.trips) : Fin 3 → Nat :=
  let c1_i32_224 : BitVec 32 := 1#32
  let v274 : Index := Scalar.indexCast c1_i32_224
  let c0_i32_90 : BitVec 32 := 0#32
  let c1_i32_92 : BitVec 32 := 1#32
  let arg18 : BitVec 32 := Scf.iv c0_i32_90 c1_i32_92 k0_t3
  let v275 : Index := Scalar.indexCast arg18
  let c112_225 : Index := 112#32
  ![1, v275.toNat, 112]
def k0_cond2 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_94 : BitVec 32 := 63#32
  let v72 : BitVec 1 := Scalar.cmpi .slt arg16 c63_i32_94
  let v73 : BitVec 32 := Scalar.extui v72
  let c0_i32_95 : BitVec 32 := 0#32
  let v74 : BitVec 1 := Scalar.cmpi .ne v73 c0_i32_95
  v74

def k0_off19 (k0_t1 : Fin k0_t1_loop.trips) : Fin 3 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let c0_i32_69 : BitVec 32 := 0#32
  let v54 : BitVec 32 := Scalar.addi v53 c0_i32_69
  let c2_i32_210 : BitVec 32 := 2#32
  let v239 : BitVec 32 := Scalar.addi v54 c2_i32_210
  let c1_i32_211 : BitVec 32 := 1#32
  let c0_i32_215 : BitVec 32 := 0#32
  ![v239.toNat, 1, 0]
@[reducible] def k0_t4_loop : Scf.Loop 32 :=
  let c0_i32_104 : BitVec 32 := 0#32
  let c50_i32_105 : BitVec 32 := 50#32
  let v80 : BitVec 32 := Scalar.addi c0_i32_104 c50_i32_105
  let c1_i32_106 : BitVec 32 := 1#32
  ⟨c0_i32_104, v80, c1_i32_106⟩
def k0_off20 (k0_t4 : Fin k0_t4_loop.trips) : Fin 3 → Nat :=
  let c2_i32_210 : BitVec 32 := 2#32
  let v239 : Index := Scalar.indexCast c2_i32_210
  let c0_i32_104 : BitVec 32 := 0#32
  let c1_i32_106 : BitVec 32 := 1#32
  let arg18 : BitVec 32 := Scf.iv c0_i32_104 c1_i32_106 k0_t4
  let v240 : Index := Scalar.indexCast arg18
  let c0_211 : Index := 0#32
  ![2, v240.toNat, 0]
def k0_off21 (k0_t4 : Fin k0_t4_loop.trips) : Fin 3 → Nat :=
  let c2_i32_212 : BitVec 32 := 2#32
  let v244 : Index := Scalar.indexCast c2_i32_212
  let c0_i32_104 : BitVec 32 := 0#32
  let c1_i32_106 : BitVec 32 := 1#32
  let arg18 : BitVec 32 := Scf.iv c0_i32_104 c1_i32_106 k0_t4
  let v245 : Index := Scalar.indexCast arg18
  let c16_213 : Index := 16#32
  ![2, v245.toNat, 16]
def k0_off22 (k0_t4 : Fin k0_t4_loop.trips) : Fin 3 → Nat :=
  let c2_i32_214 : BitVec 32 := 2#32
  let v249 : Index := Scalar.indexCast c2_i32_214
  let c0_i32_104 : BitVec 32 := 0#32
  let c1_i32_106 : BitVec 32 := 1#32
  let arg18 : BitVec 32 := Scf.iv c0_i32_104 c1_i32_106 k0_t4
  let v250 : Index := Scalar.indexCast arg18
  let c32_215 : Index := 32#32
  ![2, v250.toNat, 32]
def k0_off23 (k0_t4 : Fin k0_t4_loop.trips) : Fin 3 → Nat :=
  let c2_i32_216 : BitVec 32 := 2#32
  let v254 : Index := Scalar.indexCast c2_i32_216
  let c0_i32_104 : BitVec 32 := 0#32
  let c1_i32_106 : BitVec 32 := 1#32
  let arg18 : BitVec 32 := Scf.iv c0_i32_104 c1_i32_106 k0_t4
  let v255 : Index := Scalar.indexCast arg18
  let c48_217 : Index := 48#32
  ![2, v255.toNat, 48]
def k0_off24 (k0_t4 : Fin k0_t4_loop.trips) : Fin 3 → Nat :=
  let c2_i32_218 : BitVec 32 := 2#32
  let v259 : Index := Scalar.indexCast c2_i32_218
  let c0_i32_104 : BitVec 32 := 0#32
  let c1_i32_106 : BitVec 32 := 1#32
  let arg18 : BitVec 32 := Scf.iv c0_i32_104 c1_i32_106 k0_t4
  let v260 : Index := Scalar.indexCast arg18
  let c64_219 : Index := 64#32
  ![2, v260.toNat, 64]
def k0_off25 (k0_t4 : Fin k0_t4_loop.trips) : Fin 3 → Nat :=
  let c2_i32_220 : BitVec 32 := 2#32
  let v264 : Index := Scalar.indexCast c2_i32_220
  let c0_i32_104 : BitVec 32 := 0#32
  let c1_i32_106 : BitVec 32 := 1#32
  let arg18 : BitVec 32 := Scf.iv c0_i32_104 c1_i32_106 k0_t4
  let v265 : Index := Scalar.indexCast arg18
  let c80_221 : Index := 80#32
  ![2, v265.toNat, 80]
def k0_off26 (k0_t4 : Fin k0_t4_loop.trips) : Fin 3 → Nat :=
  let c2_i32_222 : BitVec 32 := 2#32
  let v269 : Index := Scalar.indexCast c2_i32_222
  let c0_i32_104 : BitVec 32 := 0#32
  let c1_i32_106 : BitVec 32 := 1#32
  let arg18 : BitVec 32 := Scf.iv c0_i32_104 c1_i32_106 k0_t4
  let v270 : Index := Scalar.indexCast arg18
  let c96_223 : Index := 96#32
  ![2, v270.toNat, 96]
def k0_off27 (k0_t4 : Fin k0_t4_loop.trips) : Fin 3 → Nat :=
  let c2_i32_224 : BitVec 32 := 2#32
  let v274 : Index := Scalar.indexCast c2_i32_224
  let c0_i32_104 : BitVec 32 := 0#32
  let c1_i32_106 : BitVec 32 := 1#32
  let arg18 : BitVec 32 := Scf.iv c0_i32_104 c1_i32_106 k0_t4
  let v275 : Index := Scalar.indexCast arg18
  let c112_225 : Index := 112#32
  ![2, v275.toNat, 112]
def k0_cond3 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_108 : BitVec 32 := 63#32
  let v82 : BitVec 1 := Scalar.cmpi .slt arg16 c63_i32_108
  let v83 : BitVec 32 := Scalar.extui v82
  let c0_i32_109 : BitVec 32 := 0#32
  let v84 : BitVec 1 := Scalar.cmpi .ne v83 c0_i32_109
  v84

def k0_off28 (k0_t1 : Fin k0_t1_loop.trips) : Fin 3 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let c0_i32_69 : BitVec 32 := 0#32
  let v54 : BitVec 32 := Scalar.addi v53 c0_i32_69
  let c2_i32_210 : BitVec 32 := 2#32
  let v239 : BitVec 32 := Scalar.addi v54 c2_i32_210
  let c2_i32_211 : BitVec 32 := 2#32
  let c0_i32_215 : BitVec 32 := 0#32
  ![v239.toNat, 2, 0]
@[reducible] def k0_t5_loop : Scf.Loop 32 :=
  let c0_i32_118 : BitVec 32 := 0#32
  let c50_i32_119 : BitVec 32 := 50#32
  let v90 : BitVec 32 := Scalar.addi c0_i32_118 c50_i32_119
  let c1_i32_120 : BitVec 32 := 1#32
  ⟨c0_i32_118, v90, c1_i32_120⟩
def k0_off29 (k0_t5 : Fin k0_t5_loop.trips) : Fin 3 → Nat :=
  let c3_i32_210 : BitVec 32 := 3#32
  let v239 : Index := Scalar.indexCast c3_i32_210
  let c0_i32_118 : BitVec 32 := 0#32
  let c1_i32_120 : BitVec 32 := 1#32
  let arg18 : BitVec 32 := Scf.iv c0_i32_118 c1_i32_120 k0_t5
  let v240 : Index := Scalar.indexCast arg18
  let c0_211 : Index := 0#32
  ![3, v240.toNat, 0]
def k0_off30 (k0_t5 : Fin k0_t5_loop.trips) : Fin 3 → Nat :=
  let c3_i32_212 : BitVec 32 := 3#32
  let v244 : Index := Scalar.indexCast c3_i32_212
  let c0_i32_118 : BitVec 32 := 0#32
  let c1_i32_120 : BitVec 32 := 1#32
  let arg18 : BitVec 32 := Scf.iv c0_i32_118 c1_i32_120 k0_t5
  let v245 : Index := Scalar.indexCast arg18
  let c16_213 : Index := 16#32
  ![3, v245.toNat, 16]
def k0_off31 (k0_t5 : Fin k0_t5_loop.trips) : Fin 3 → Nat :=
  let c3_i32_214 : BitVec 32 := 3#32
  let v249 : Index := Scalar.indexCast c3_i32_214
  let c0_i32_118 : BitVec 32 := 0#32
  let c1_i32_120 : BitVec 32 := 1#32
  let arg18 : BitVec 32 := Scf.iv c0_i32_118 c1_i32_120 k0_t5
  let v250 : Index := Scalar.indexCast arg18
  let c32_215 : Index := 32#32
  ![3, v250.toNat, 32]
def k0_off32 (k0_t5 : Fin k0_t5_loop.trips) : Fin 3 → Nat :=
  let c3_i32_216 : BitVec 32 := 3#32
  let v254 : Index := Scalar.indexCast c3_i32_216
  let c0_i32_118 : BitVec 32 := 0#32
  let c1_i32_120 : BitVec 32 := 1#32
  let arg18 : BitVec 32 := Scf.iv c0_i32_118 c1_i32_120 k0_t5
  let v255 : Index := Scalar.indexCast arg18
  let c48_217 : Index := 48#32
  ![3, v255.toNat, 48]
def k0_off33 (k0_t5 : Fin k0_t5_loop.trips) : Fin 3 → Nat :=
  let c3_i32_218 : BitVec 32 := 3#32
  let v259 : Index := Scalar.indexCast c3_i32_218
  let c0_i32_118 : BitVec 32 := 0#32
  let c1_i32_120 : BitVec 32 := 1#32
  let arg18 : BitVec 32 := Scf.iv c0_i32_118 c1_i32_120 k0_t5
  let v260 : Index := Scalar.indexCast arg18
  let c64_219 : Index := 64#32
  ![3, v260.toNat, 64]
def k0_off34 (k0_t5 : Fin k0_t5_loop.trips) : Fin 3 → Nat :=
  let c3_i32_220 : BitVec 32 := 3#32
  let v264 : Index := Scalar.indexCast c3_i32_220
  let c0_i32_118 : BitVec 32 := 0#32
  let c1_i32_120 : BitVec 32 := 1#32
  let arg18 : BitVec 32 := Scf.iv c0_i32_118 c1_i32_120 k0_t5
  let v265 : Index := Scalar.indexCast arg18
  let c80_221 : Index := 80#32
  ![3, v265.toNat, 80]
def k0_off35 (k0_t5 : Fin k0_t5_loop.trips) : Fin 3 → Nat :=
  let c3_i32_222 : BitVec 32 := 3#32
  let v269 : Index := Scalar.indexCast c3_i32_222
  let c0_i32_118 : BitVec 32 := 0#32
  let c1_i32_120 : BitVec 32 := 1#32
  let arg18 : BitVec 32 := Scf.iv c0_i32_118 c1_i32_120 k0_t5
  let v270 : Index := Scalar.indexCast arg18
  let c96_223 : Index := 96#32
  ![3, v270.toNat, 96]
def k0_off36 (k0_t5 : Fin k0_t5_loop.trips) : Fin 3 → Nat :=
  let c3_i32_224 : BitVec 32 := 3#32
  let v274 : Index := Scalar.indexCast c3_i32_224
  let c0_i32_118 : BitVec 32 := 0#32
  let c1_i32_120 : BitVec 32 := 1#32
  let arg18 : BitVec 32 := Scf.iv c0_i32_118 c1_i32_120 k0_t5
  let v275 : Index := Scalar.indexCast arg18
  let c112_225 : Index := 112#32
  ![3, v275.toNat, 112]
def k0_cond4 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_122 : BitVec 32 := 63#32
  let v92 : BitVec 1 := Scalar.cmpi .slt arg16 c63_i32_122
  let v93 : BitVec 32 := Scalar.extui v92
  let c0_i32_123 : BitVec 32 := 0#32
  let v94 : BitVec 1 := Scalar.cmpi .ne v93 c0_i32_123
  v94

def k0_off37 (k0_t1 : Fin k0_t1_loop.trips) : Fin 3 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let c0_i32_69 : BitVec 32 := 0#32
  let v54 : BitVec 32 := Scalar.addi v53 c0_i32_69
  let c2_i32_210 : BitVec 32 := 2#32
  let v239 : BitVec 32 := Scalar.addi v54 c2_i32_210
  let c3_i32_211 : BitVec 32 := 3#32
  let c0_i32_215 : BitVec 32 := 0#32
  ![v239.toNat, 3, 0]
def k0_off38 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v98 : Index := Scalar.indexCast v95
  let c0 : Index := 0#32
  ![v98.toNat, 0]
def k0_off39 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v104 : Index := Scalar.indexCast v95
  let c16 : Index := 16#32
  ![v104.toNat, 16]
def k0_off40 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v110 : Index := Scalar.indexCast v95
  let c32 : Index := 32#32
  ![v110.toNat, 32]
def k0_off41 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v116 : Index := Scalar.indexCast v95
  let c48 : Index := 48#32
  ![v116.toNat, 48]
def k0_off42 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v122 : Index := Scalar.indexCast v95
  let c64 : Index := 64#32
  ![v122.toNat, 64]
def k0_off43 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v128 : Index := Scalar.indexCast v95
  let c80 : Index := 80#32
  ![v128.toNat, 80]
def k0_off44 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v134 : Index := Scalar.indexCast v95
  let c96 : Index := 96#32
  ![v134.toNat, 96]
def k0_off45 (k0_t1 : Fin k0_t1_loop.trips) (c0_i32_69 : BitVec 32) : Fin 2 → Nat :=
  let c2_i32_68 : BitVec 32 := 2#32
  let c0_i32_65 : BitVec 32 := 0#32
  let c1_i32_66 : BitVec 32 := 1#32
  let arg16 : BitVec 32 := Scf.iv c0_i32_65 c1_i32_66 k0_t1
  let v53 : BitVec 32 := Scalar.muli c2_i32_68 arg16
  let v54 : BitVec 32 := Scalar.addi v53 c0_i32_69
  let c31_i32 : BitVec 32 := 31#32
  let v95 : BitVec 32 := Scalar.andi v54 c31_i32
  let v140 : Index := Scalar.indexCast v95
  let c112 : Index := 112#32
  ![v140.toNat, 112]
@[reducible] def k0_t6_loop : Scf.Loop 32 :=
  let c0_i32_142 : BitVec 32 := 0#32
  let c50_i32_143 : BitVec 32 := 50#32
  let v151 : BitVec 32 := Scalar.addi c0_i32_142 c50_i32_143
  let c1_i32_144 : BitVec 32 := 1#32
  ⟨c0_i32_142, v151, c1_i32_144⟩
def k0_off46 (k0_t6 : Fin k0_t6_loop.trips) : Fin 3 → Nat :=
  let c4_i32_210 : BitVec 32 := 4#32
  let v239 : Index := Scalar.indexCast c4_i32_210
  let c0_i32_142 : BitVec 32 := 0#32
  let c1_i32_144 : BitVec 32 := 1#32
  let arg18 : BitVec 32 := Scf.iv c0_i32_142 c1_i32_144 k0_t6
  let v240 : Index := Scalar.indexCast arg18
  let c0_211 : Index := 0#32
  ![4, v240.toNat, 0]
def k0_off47 (k0_t6 : Fin k0_t6_loop.trips) : Fin 3 → Nat :=
  let c4_i32_212 : BitVec 32 := 4#32
  let v244 : Index := Scalar.indexCast c4_i32_212
  let c0_i32_142 : BitVec 32 := 0#32
  let c1_i32_144 : BitVec 32 := 1#32
  let arg18 : BitVec 32 := Scf.iv c0_i32_142 c1_i32_144 k0_t6
  let v245 : Index := Scalar.indexCast arg18
  let c16_213 : Index := 16#32
  ![4, v245.toNat, 16]
def k0_off48 (k0_t6 : Fin k0_t6_loop.trips) : Fin 3 → Nat :=
  let c4_i32_214 : BitVec 32 := 4#32
  let v249 : Index := Scalar.indexCast c4_i32_214
  let c0_i32_142 : BitVec 32 := 0#32
  let c1_i32_144 : BitVec 32 := 1#32
  let arg18 : BitVec 32 := Scf.iv c0_i32_142 c1_i32_144 k0_t6
  let v250 : Index := Scalar.indexCast arg18
  let c32_215 : Index := 32#32
  ![4, v250.toNat, 32]
def k0_off49 (k0_t6 : Fin k0_t6_loop.trips) : Fin 3 → Nat :=
  let c4_i32_216 : BitVec 32 := 4#32
  let v254 : Index := Scalar.indexCast c4_i32_216
  let c0_i32_142 : BitVec 32 := 0#32
  let c1_i32_144 : BitVec 32 := 1#32
  let arg18 : BitVec 32 := Scf.iv c0_i32_142 c1_i32_144 k0_t6
  let v255 : Index := Scalar.indexCast arg18
  let c48_217 : Index := 48#32
  ![4, v255.toNat, 48]
def k0_off50 (k0_t6 : Fin k0_t6_loop.trips) : Fin 3 → Nat :=
  let c4_i32_218 : BitVec 32 := 4#32
  let v259 : Index := Scalar.indexCast c4_i32_218
  let c0_i32_142 : BitVec 32 := 0#32
  let c1_i32_144 : BitVec 32 := 1#32
  let arg18 : BitVec 32 := Scf.iv c0_i32_142 c1_i32_144 k0_t6
  let v260 : Index := Scalar.indexCast arg18
  let c64_219 : Index := 64#32
  ![4, v260.toNat, 64]
def k0_off51 (k0_t6 : Fin k0_t6_loop.trips) : Fin 3 → Nat :=
  let c4_i32_220 : BitVec 32 := 4#32
  let v264 : Index := Scalar.indexCast c4_i32_220
  let c0_i32_142 : BitVec 32 := 0#32
  let c1_i32_144 : BitVec 32 := 1#32
  let arg18 : BitVec 32 := Scf.iv c0_i32_142 c1_i32_144 k0_t6
  let v265 : Index := Scalar.indexCast arg18
  let c80_221 : Index := 80#32
  ![4, v265.toNat, 80]
def k0_off52 (k0_t6 : Fin k0_t6_loop.trips) : Fin 3 → Nat :=
  let c4_i32_222 : BitVec 32 := 4#32
  let v269 : Index := Scalar.indexCast c4_i32_222
  let c0_i32_142 : BitVec 32 := 0#32
  let c1_i32_144 : BitVec 32 := 1#32
  let arg18 : BitVec 32 := Scf.iv c0_i32_142 c1_i32_144 k0_t6
  let v270 : Index := Scalar.indexCast arg18
  let c96_223 : Index := 96#32
  ![4, v270.toNat, 96]
def k0_off53 (k0_t6 : Fin k0_t6_loop.trips) : Fin 3 → Nat :=
  let c4_i32_224 : BitVec 32 := 4#32
  let v274 : Index := Scalar.indexCast c4_i32_224
  let c0_i32_142 : BitVec 32 := 0#32
  let c1_i32_144 : BitVec 32 := 1#32
  let arg18 : BitVec 32 := Scf.iv c0_i32_142 c1_i32_144 k0_t6
  let v275 : Index := Scalar.indexCast arg18
  let c112_225 : Index := 112#32
  ![4, v275.toNat, 112]
def k0_cond5 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_146 : BitVec 32 := 63#32
  let v153 : BitVec 1 := Scalar.cmpi .slt arg16 c63_i32_146
  let v154 : BitVec 32 := Scalar.extui v153
  let c0_i32_147 : BitVec 32 := 0#32
  let v155 : BitVec 1 := Scalar.cmpi .ne v154 c0_i32_147
  v155

def k0_off54 (k0_t1 : Fin k0_t1_loop.trips) : Fin 3 → Nat :=
  let c2_i32_132 : BitVec 32 := 2#32
  let c0_i32_65 : BitVec 32 := 0#32
  let c1_i32_66 : BitVec 32 := 1#32
  let arg16 : BitVec 32 := Scf.iv c0_i32_65 c1_i32_66 k0_t1
  let v144 : BitVec 32 := Scalar.muli c2_i32_132 arg16
  let c1_i32_133 : BitVec 32 := 1#32
  let v145 : BitVec 32 := Scalar.addi v144 c1_i32_133
  let c2_i32_210 : BitVec 32 := 2#32
  let v239 : BitVec 32 := Scalar.addi v145 c2_i32_210
  let c0_i32_211 : BitVec 32 := 0#32
  let c0_i32_215 : BitVec 32 := 0#32
  ![v239.toNat, 0, 0]
@[reducible] def k0_t7_loop : Scf.Loop 32 :=
  let c0_i32_156 : BitVec 32 := 0#32
  let c50_i32_157 : BitVec 32 := 50#32
  let v161 : BitVec 32 := Scalar.addi c0_i32_156 c50_i32_157
  let c1_i32_158 : BitVec 32 := 1#32
  ⟨c0_i32_156, v161, c1_i32_158⟩
def k0_off55 (k0_t7 : Fin k0_t7_loop.trips) : Fin 3 → Nat :=
  let c5_i32_210 : BitVec 32 := 5#32
  let v239 : Index := Scalar.indexCast c5_i32_210
  let c0_i32_156 : BitVec 32 := 0#32
  let c1_i32_158 : BitVec 32 := 1#32
  let arg18 : BitVec 32 := Scf.iv c0_i32_156 c1_i32_158 k0_t7
  let v240 : Index := Scalar.indexCast arg18
  let c0_211 : Index := 0#32
  ![5, v240.toNat, 0]
def k0_off56 (k0_t7 : Fin k0_t7_loop.trips) : Fin 3 → Nat :=
  let c5_i32_212 : BitVec 32 := 5#32
  let v244 : Index := Scalar.indexCast c5_i32_212
  let c0_i32_156 : BitVec 32 := 0#32
  let c1_i32_158 : BitVec 32 := 1#32
  let arg18 : BitVec 32 := Scf.iv c0_i32_156 c1_i32_158 k0_t7
  let v245 : Index := Scalar.indexCast arg18
  let c16_213 : Index := 16#32
  ![5, v245.toNat, 16]
def k0_off57 (k0_t7 : Fin k0_t7_loop.trips) : Fin 3 → Nat :=
  let c5_i32_214 : BitVec 32 := 5#32
  let v249 : Index := Scalar.indexCast c5_i32_214
  let c0_i32_156 : BitVec 32 := 0#32
  let c1_i32_158 : BitVec 32 := 1#32
  let arg18 : BitVec 32 := Scf.iv c0_i32_156 c1_i32_158 k0_t7
  let v250 : Index := Scalar.indexCast arg18
  let c32_215 : Index := 32#32
  ![5, v250.toNat, 32]
def k0_off58 (k0_t7 : Fin k0_t7_loop.trips) : Fin 3 → Nat :=
  let c5_i32_216 : BitVec 32 := 5#32
  let v254 : Index := Scalar.indexCast c5_i32_216
  let c0_i32_156 : BitVec 32 := 0#32
  let c1_i32_158 : BitVec 32 := 1#32
  let arg18 : BitVec 32 := Scf.iv c0_i32_156 c1_i32_158 k0_t7
  let v255 : Index := Scalar.indexCast arg18
  let c48_217 : Index := 48#32
  ![5, v255.toNat, 48]
def k0_off59 (k0_t7 : Fin k0_t7_loop.trips) : Fin 3 → Nat :=
  let c5_i32_218 : BitVec 32 := 5#32
  let v259 : Index := Scalar.indexCast c5_i32_218
  let c0_i32_156 : BitVec 32 := 0#32
  let c1_i32_158 : BitVec 32 := 1#32
  let arg18 : BitVec 32 := Scf.iv c0_i32_156 c1_i32_158 k0_t7
  let v260 : Index := Scalar.indexCast arg18
  let c64_219 : Index := 64#32
  ![5, v260.toNat, 64]
def k0_off60 (k0_t7 : Fin k0_t7_loop.trips) : Fin 3 → Nat :=
  let c5_i32_220 : BitVec 32 := 5#32
  let v264 : Index := Scalar.indexCast c5_i32_220
  let c0_i32_156 : BitVec 32 := 0#32
  let c1_i32_158 : BitVec 32 := 1#32
  let arg18 : BitVec 32 := Scf.iv c0_i32_156 c1_i32_158 k0_t7
  let v265 : Index := Scalar.indexCast arg18
  let c80_221 : Index := 80#32
  ![5, v265.toNat, 80]
def k0_off61 (k0_t7 : Fin k0_t7_loop.trips) : Fin 3 → Nat :=
  let c5_i32_222 : BitVec 32 := 5#32
  let v269 : Index := Scalar.indexCast c5_i32_222
  let c0_i32_156 : BitVec 32 := 0#32
  let c1_i32_158 : BitVec 32 := 1#32
  let arg18 : BitVec 32 := Scf.iv c0_i32_156 c1_i32_158 k0_t7
  let v270 : Index := Scalar.indexCast arg18
  let c96_223 : Index := 96#32
  ![5, v270.toNat, 96]
def k0_off62 (k0_t7 : Fin k0_t7_loop.trips) : Fin 3 → Nat :=
  let c5_i32_224 : BitVec 32 := 5#32
  let v274 : Index := Scalar.indexCast c5_i32_224
  let c0_i32_156 : BitVec 32 := 0#32
  let c1_i32_158 : BitVec 32 := 1#32
  let arg18 : BitVec 32 := Scf.iv c0_i32_156 c1_i32_158 k0_t7
  let v275 : Index := Scalar.indexCast arg18
  let c112_225 : Index := 112#32
  ![5, v275.toNat, 112]
def k0_cond6 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_160 : BitVec 32 := 63#32
  let v163 : BitVec 1 := Scalar.cmpi .slt arg16 c63_i32_160
  let v164 : BitVec 32 := Scalar.extui v163
  let c0_i32_161 : BitVec 32 := 0#32
  let v165 : BitVec 1 := Scalar.cmpi .ne v164 c0_i32_161
  v165

def k0_off63 (k0_t1 : Fin k0_t1_loop.trips) : Fin 3 → Nat :=
  let c2_i32_132 : BitVec 32 := 2#32
  let c0_i32_65 : BitVec 32 := 0#32
  let c1_i32_66 : BitVec 32 := 1#32
  let arg16 : BitVec 32 := Scf.iv c0_i32_65 c1_i32_66 k0_t1
  let v144 : BitVec 32 := Scalar.muli c2_i32_132 arg16
  let c1_i32_133 : BitVec 32 := 1#32
  let v145 : BitVec 32 := Scalar.addi v144 c1_i32_133
  let c2_i32_210 : BitVec 32 := 2#32
  let v239 : BitVec 32 := Scalar.addi v145 c2_i32_210
  let c1_i32_211 : BitVec 32 := 1#32
  let c0_i32_215 : BitVec 32 := 0#32
  ![v239.toNat, 1, 0]
@[reducible] def k0_t8_loop : Scf.Loop 32 :=
  let c0_i32_170 : BitVec 32 := 0#32
  let c50_i32_171 : BitVec 32 := 50#32
  let v171 : BitVec 32 := Scalar.addi c0_i32_170 c50_i32_171
  let c1_i32_172 : BitVec 32 := 1#32
  ⟨c0_i32_170, v171, c1_i32_172⟩
def k0_off64 (k0_t8 : Fin k0_t8_loop.trips) : Fin 3 → Nat :=
  let c6_i32_210 : BitVec 32 := 6#32
  let v239 : Index := Scalar.indexCast c6_i32_210
  let c0_i32_170 : BitVec 32 := 0#32
  let c1_i32_172 : BitVec 32 := 1#32
  let arg18 : BitVec 32 := Scf.iv c0_i32_170 c1_i32_172 k0_t8
  let v240 : Index := Scalar.indexCast arg18
  let c0_211 : Index := 0#32
  ![6, v240.toNat, 0]
def k0_off65 (k0_t8 : Fin k0_t8_loop.trips) : Fin 3 → Nat :=
  let c6_i32_212 : BitVec 32 := 6#32
  let v244 : Index := Scalar.indexCast c6_i32_212
  let c0_i32_170 : BitVec 32 := 0#32
  let c1_i32_172 : BitVec 32 := 1#32
  let arg18 : BitVec 32 := Scf.iv c0_i32_170 c1_i32_172 k0_t8
  let v245 : Index := Scalar.indexCast arg18
  let c16_213 : Index := 16#32
  ![6, v245.toNat, 16]
def k0_off66 (k0_t8 : Fin k0_t8_loop.trips) : Fin 3 → Nat :=
  let c6_i32_214 : BitVec 32 := 6#32
  let v249 : Index := Scalar.indexCast c6_i32_214
  let c0_i32_170 : BitVec 32 := 0#32
  let c1_i32_172 : BitVec 32 := 1#32
  let arg18 : BitVec 32 := Scf.iv c0_i32_170 c1_i32_172 k0_t8
  let v250 : Index := Scalar.indexCast arg18
  let c32_215 : Index := 32#32
  ![6, v250.toNat, 32]
def k0_off67 (k0_t8 : Fin k0_t8_loop.trips) : Fin 3 → Nat :=
  let c6_i32_216 : BitVec 32 := 6#32
  let v254 : Index := Scalar.indexCast c6_i32_216
  let c0_i32_170 : BitVec 32 := 0#32
  let c1_i32_172 : BitVec 32 := 1#32
  let arg18 : BitVec 32 := Scf.iv c0_i32_170 c1_i32_172 k0_t8
  let v255 : Index := Scalar.indexCast arg18
  let c48_217 : Index := 48#32
  ![6, v255.toNat, 48]
def k0_off68 (k0_t8 : Fin k0_t8_loop.trips) : Fin 3 → Nat :=
  let c6_i32_218 : BitVec 32 := 6#32
  let v259 : Index := Scalar.indexCast c6_i32_218
  let c0_i32_170 : BitVec 32 := 0#32
  let c1_i32_172 : BitVec 32 := 1#32
  let arg18 : BitVec 32 := Scf.iv c0_i32_170 c1_i32_172 k0_t8
  let v260 : Index := Scalar.indexCast arg18
  let c64_219 : Index := 64#32
  ![6, v260.toNat, 64]
def k0_off69 (k0_t8 : Fin k0_t8_loop.trips) : Fin 3 → Nat :=
  let c6_i32_220 : BitVec 32 := 6#32
  let v264 : Index := Scalar.indexCast c6_i32_220
  let c0_i32_170 : BitVec 32 := 0#32
  let c1_i32_172 : BitVec 32 := 1#32
  let arg18 : BitVec 32 := Scf.iv c0_i32_170 c1_i32_172 k0_t8
  let v265 : Index := Scalar.indexCast arg18
  let c80_221 : Index := 80#32
  ![6, v265.toNat, 80]
def k0_off70 (k0_t8 : Fin k0_t8_loop.trips) : Fin 3 → Nat :=
  let c6_i32_222 : BitVec 32 := 6#32
  let v269 : Index := Scalar.indexCast c6_i32_222
  let c0_i32_170 : BitVec 32 := 0#32
  let c1_i32_172 : BitVec 32 := 1#32
  let arg18 : BitVec 32 := Scf.iv c0_i32_170 c1_i32_172 k0_t8
  let v270 : Index := Scalar.indexCast arg18
  let c96_223 : Index := 96#32
  ![6, v270.toNat, 96]
def k0_off71 (k0_t8 : Fin k0_t8_loop.trips) : Fin 3 → Nat :=
  let c6_i32_224 : BitVec 32 := 6#32
  let v274 : Index := Scalar.indexCast c6_i32_224
  let c0_i32_170 : BitVec 32 := 0#32
  let c1_i32_172 : BitVec 32 := 1#32
  let arg18 : BitVec 32 := Scf.iv c0_i32_170 c1_i32_172 k0_t8
  let v275 : Index := Scalar.indexCast arg18
  let c112_225 : Index := 112#32
  ![6, v275.toNat, 112]
def k0_cond7 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_174 : BitVec 32 := 63#32
  let v173 : BitVec 1 := Scalar.cmpi .slt arg16 c63_i32_174
  let v174 : BitVec 32 := Scalar.extui v173
  let c0_i32_175 : BitVec 32 := 0#32
  let v175 : BitVec 1 := Scalar.cmpi .ne v174 c0_i32_175
  v175

def k0_off72 (k0_t1 : Fin k0_t1_loop.trips) : Fin 3 → Nat :=
  let c2_i32_132 : BitVec 32 := 2#32
  let c0_i32_65 : BitVec 32 := 0#32
  let c1_i32_66 : BitVec 32 := 1#32
  let arg16 : BitVec 32 := Scf.iv c0_i32_65 c1_i32_66 k0_t1
  let v144 : BitVec 32 := Scalar.muli c2_i32_132 arg16
  let c1_i32_133 : BitVec 32 := 1#32
  let v145 : BitVec 32 := Scalar.addi v144 c1_i32_133
  let c2_i32_210 : BitVec 32 := 2#32
  let v239 : BitVec 32 := Scalar.addi v145 c2_i32_210
  let c2_i32_211 : BitVec 32 := 2#32
  let c0_i32_215 : BitVec 32 := 0#32
  ![v239.toNat, 2, 0]
@[reducible] def k0_t9_loop : Scf.Loop 32 :=
  let c0_i32_184 : BitVec 32 := 0#32
  let c50_i32_185 : BitVec 32 := 50#32
  let v181 : BitVec 32 := Scalar.addi c0_i32_184 c50_i32_185
  let c1_i32_186 : BitVec 32 := 1#32
  ⟨c0_i32_184, v181, c1_i32_186⟩
def k0_off73 (k0_t9 : Fin k0_t9_loop.trips) : Fin 3 → Nat :=
  let c7_i32_210 : BitVec 32 := 7#32
  let v239 : Index := Scalar.indexCast c7_i32_210
  let c0_i32_184 : BitVec 32 := 0#32
  let c1_i32_186 : BitVec 32 := 1#32
  let arg18 : BitVec 32 := Scf.iv c0_i32_184 c1_i32_186 k0_t9
  let v240 : Index := Scalar.indexCast arg18
  let c0_211 : Index := 0#32
  ![7, v240.toNat, 0]
def k0_off74 (k0_t9 : Fin k0_t9_loop.trips) : Fin 3 → Nat :=
  let c7_i32_212 : BitVec 32 := 7#32
  let v244 : Index := Scalar.indexCast c7_i32_212
  let c0_i32_184 : BitVec 32 := 0#32
  let c1_i32_186 : BitVec 32 := 1#32
  let arg18 : BitVec 32 := Scf.iv c0_i32_184 c1_i32_186 k0_t9
  let v245 : Index := Scalar.indexCast arg18
  let c16_213 : Index := 16#32
  ![7, v245.toNat, 16]
def k0_off75 (k0_t9 : Fin k0_t9_loop.trips) : Fin 3 → Nat :=
  let c7_i32_214 : BitVec 32 := 7#32
  let v249 : Index := Scalar.indexCast c7_i32_214
  let c0_i32_184 : BitVec 32 := 0#32
  let c1_i32_186 : BitVec 32 := 1#32
  let arg18 : BitVec 32 := Scf.iv c0_i32_184 c1_i32_186 k0_t9
  let v250 : Index := Scalar.indexCast arg18
  let c32_215 : Index := 32#32
  ![7, v250.toNat, 32]
def k0_off76 (k0_t9 : Fin k0_t9_loop.trips) : Fin 3 → Nat :=
  let c7_i32_216 : BitVec 32 := 7#32
  let v254 : Index := Scalar.indexCast c7_i32_216
  let c0_i32_184 : BitVec 32 := 0#32
  let c1_i32_186 : BitVec 32 := 1#32
  let arg18 : BitVec 32 := Scf.iv c0_i32_184 c1_i32_186 k0_t9
  let v255 : Index := Scalar.indexCast arg18
  let c48_217 : Index := 48#32
  ![7, v255.toNat, 48]
def k0_off77 (k0_t9 : Fin k0_t9_loop.trips) : Fin 3 → Nat :=
  let c7_i32_218 : BitVec 32 := 7#32
  let v259 : Index := Scalar.indexCast c7_i32_218
  let c0_i32_184 : BitVec 32 := 0#32
  let c1_i32_186 : BitVec 32 := 1#32
  let arg18 : BitVec 32 := Scf.iv c0_i32_184 c1_i32_186 k0_t9
  let v260 : Index := Scalar.indexCast arg18
  let c64_219 : Index := 64#32
  ![7, v260.toNat, 64]
def k0_off78 (k0_t9 : Fin k0_t9_loop.trips) : Fin 3 → Nat :=
  let c7_i32_220 : BitVec 32 := 7#32
  let v264 : Index := Scalar.indexCast c7_i32_220
  let c0_i32_184 : BitVec 32 := 0#32
  let c1_i32_186 : BitVec 32 := 1#32
  let arg18 : BitVec 32 := Scf.iv c0_i32_184 c1_i32_186 k0_t9
  let v265 : Index := Scalar.indexCast arg18
  let c80_221 : Index := 80#32
  ![7, v265.toNat, 80]
def k0_off79 (k0_t9 : Fin k0_t9_loop.trips) : Fin 3 → Nat :=
  let c7_i32_222 : BitVec 32 := 7#32
  let v269 : Index := Scalar.indexCast c7_i32_222
  let c0_i32_184 : BitVec 32 := 0#32
  let c1_i32_186 : BitVec 32 := 1#32
  let arg18 : BitVec 32 := Scf.iv c0_i32_184 c1_i32_186 k0_t9
  let v270 : Index := Scalar.indexCast arg18
  let c96_223 : Index := 96#32
  ![7, v270.toNat, 96]
def k0_off80 (k0_t9 : Fin k0_t9_loop.trips) : Fin 3 → Nat :=
  let c7_i32_224 : BitVec 32 := 7#32
  let v274 : Index := Scalar.indexCast c7_i32_224
  let c0_i32_184 : BitVec 32 := 0#32
  let c1_i32_186 : BitVec 32 := 1#32
  let arg18 : BitVec 32 := Scf.iv c0_i32_184 c1_i32_186 k0_t9
  let v275 : Index := Scalar.indexCast arg18
  let c112_225 : Index := 112#32
  ![7, v275.toNat, 112]
def k0_cond8 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c63_i32_188 : BitVec 32 := 63#32
  let v183 : BitVec 1 := Scalar.cmpi .slt arg16 c63_i32_188
  let v184 : BitVec 32 := Scalar.extui v183
  let c0_i32_189 : BitVec 32 := 0#32
  let v185 : BitVec 1 := Scalar.cmpi .ne v184 c0_i32_189
  v185

def k0_off81 (k0_t1 : Fin k0_t1_loop.trips) : Fin 3 → Nat :=
  let c2_i32_132 : BitVec 32 := 2#32
  let c0_i32_65 : BitVec 32 := 0#32
  let c1_i32_66 : BitVec 32 := 1#32
  let arg16 : BitVec 32 := Scf.iv c0_i32_65 c1_i32_66 k0_t1
  let v144 : BitVec 32 := Scalar.muli c2_i32_132 arg16
  let c1_i32_133 : BitVec 32 := 1#32
  let v145 : BitVec 32 := Scalar.addi v144 c1_i32_133
  let c2_i32_210 : BitVec 32 := 2#32
  let v239 : BitVec 32 := Scalar.addi v145 c2_i32_210
  let c3_i32_211 : BitVec 32 := 3#32
  let c0_i32_215 : BitVec 32 := 0#32
  ![v239.toNat, 3, 0]
def k0_cond9 (k0_t1 : Fin k0_t1_loop.trips) : BitVec 1 :=
  let c0_i32_65 : BitVec 32 := 0#32
  let c1_i32_66 : BitVec 32 := 1#32
  let arg16 : BitVec 32 := Scf.iv c0_i32_65 c1_i32_66 k0_t1
  let c15_i32 : BitVec 32 := 15#32
  let v235 : BitVec 32 := Scalar.andi arg16 c15_i32
  let c15_i32_207 : BitVec 32 := 15#32
  let v236 : BitVec 1 := Scalar.cmpi .eq v235 c15_i32_207
  let v237 : BitVec 32 := Scalar.extui v236
  let c0_i32_208 : BitVec 32 := 0#32
  let v238 : BitVec 1 := Scalar.cmpi .ne v237 c0_i32_208
  v238

def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_210 : BitVec 32 := 2#32
  let c0_i32_65 : BitVec 32 := 0#32
  let c1_i32_66 : BitVec 32 := 1#32
  let arg16 : BitVec 32 := Scf.iv c0_i32_65 c1_i32_66 k0_t1
  let v239 : BitVec 32 := Scalar.muli c2_i32_210 arg16
  let v240 : BitVec 32 := Scalar.addi v2 v239
  let c30_i32 : BitVec 32 := 30#32
  let v241 : BitVec 32 := Scalar.subi v240 c30_i32
  v241
def k0_off82 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_210 : BitVec 32 := 2#32
  let c0_i32_65 : BitVec 32 := 0#32
  let c1_i32_66 : BitVec 32 := 1#32
  let arg16 : BitVec 32 := Scf.iv c0_i32_65 c1_i32_66 k0_t1
  let v239 : BitVec 32 := Scalar.muli c2_i32_210 arg16
  let v240 : BitVec 32 := Scalar.addi v2 v239
  let c30_i32 : BitVec 32 := 30#32
  let v241 : BitVec 32 := Scalar.subi v240 c30_i32
  let v242 : BitVec 32 := v241
  let c0_i32_211_r1 : BitVec 32 := 0#32
  ![v242.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x11 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x11 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x11 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_len" => some ((200⁻¹ : ℝ) : EReal)
  | _ => none
-- ==== ReferenceIdeal.lean ====
abbrev S4096x200 : Shape := ⟨2, ![4096, 200]⟩
abbrev S100000x128 : Shape := ⟨2, ![100000, 128]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x11 : Shape := ⟨2, ![256, 11]⟩
abbrev S11 : Shape := ⟨1, ![11]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x128 : Shape := ⟨2, ![4096, 128]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x11 : Shape := ⟨2, ![4096, 11]⟩
abbrev S1x11 : Shape := ⟨2, ![1, 11]⟩

abbrev nBuf : Space → Nat
  | .hbm => 94
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x11, .f32⟩
  | .hbm, ⟨15, _⟩ => ⟨S11, .f32⟩
  | .hbm, ⟨16, _⟩ => ⟨S_, .i32⟩
  | .hbm, ⟨17, _⟩ => ⟨S4096x200, .i32⟩
  | .hbm, ⟨18, _⟩ => ⟨S4096x200, .i1⟩
  | .hbm, ⟨19, _⟩ => ⟨S_, .i32⟩
  | .hbm, ⟨20, _⟩ => ⟨S4096x200, .i32⟩
  | .hbm, ⟨21, _⟩ => ⟨S4096x200, .i32⟩
  | .hbm, ⟨22, _⟩ => ⟨S4096x200, .i32⟩
  | .hbm, ⟨23, _⟩ => ⟨S4096x200x1, .i32⟩
  | .hbm, ⟨24, _⟩ => ⟨S1, .i32⟩
  | .hbm, ⟨25, _⟩ => ⟨S_, .i32⟩
  | .hbm, ⟨26, _⟩ => ⟨S4096x200x1, .i32⟩
  | .hbm, ⟨27, _⟩ => ⟨S4096x200x1, .i1⟩
  | .hbm, ⟨28, _⟩ => ⟨S1x1x1, .i32⟩
  | .hbm, ⟨29, _⟩ => ⟨S4096x200x1, .i32⟩
  | .hbm, ⟨30, _⟩ => ⟨S4096x200x1, .i1⟩
  | .hbm, ⟨31, _⟩ => ⟨S4096x200x1, .i1⟩
  | .hbm, ⟨32, _⟩ => ⟨S_, .i1⟩
  | .hbm, ⟨33, _⟩ => ⟨S4096x200, .i1⟩
  | .hbm, ⟨34, _⟩ => ⟨S4096x200x128, .f32⟩
  | .hbm, ⟨35, _⟩ => ⟨S4096x200x128, .i1⟩
  | .hbm, ⟨36, _⟩ => ⟨S_, .f32⟩
  | .hbm, ⟨37, _⟩ => ⟨S4096x200x128, .f32⟩
  | .hbm, ⟨38, _⟩ => ⟨S4096x200x128, .f32⟩
  | .hbm, ⟨39, _⟩ => ⟨S_, .f32⟩
  | .hbm, ⟨40, _⟩ => ⟨S4096x128, .f32⟩
  | .hbm, ⟨41, _⟩ => ⟨S_, .f32⟩
  | .hbm, ⟨42, _⟩ => ⟨S4096x128, .f32⟩
  | .hbm, ⟨43, _⟩ => ⟨S4096x128, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S1x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S1x512, .f32⟩
  | .hbm, ⟨56, _⟩ => ⟨S4096x512, .f32⟩
  | .hbm, ⟨57, _⟩ => ⟨S4096x512, .f32⟩
  | .hbm, ⟨58, _⟩ => ⟨S1x512, .f32⟩
  | .hbm, ⟨59, _⟩ => ⟨S4096x512, .f32⟩
  | .hbm, ⟨60, _⟩ => ⟨S4096x512, .f32⟩
  | .hbm, ⟨61, _⟩ => ⟨S1x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S4096x256, .f32⟩
  | .hbm, ⟨68, _⟩ => ⟨S1x256, .f32⟩
  | .hbm, ⟨69, _⟩ => ⟨S4096x256, .f32⟩
  | .hbm, ⟨70, _⟩ => ⟨S4096x256, .f32⟩
  | .hbm, ⟨71, _⟩ => ⟨S1x256, .f32⟩
  | .hbm, ⟨72, _⟩ => ⟨S4096x256, .f32⟩
  | .hbm, ⟨73, _⟩ => ⟨S4096x256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S1x256, .f32⟩
  | .hbm, ⟨79, _⟩ => ⟨S4096x256, .f32⟩
  | .hbm, ⟨80, _⟩ => ⟨S4096x256, .f32⟩
  | .hbm, ⟨81, _⟩ => ⟨S1x256, .f32⟩
  | .hbm, ⟨82, _⟩ => ⟨S4096x256, .f32⟩
  | .hbm, ⟨83, _⟩ => ⟨S4096x256, .f32⟩
  | .hbm, ⟨84, _⟩ => ⟨S1x256, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S4096x256, .f32⟩
  | .hbm, ⟨89, _⟩ => ⟨S4096x256, .f32⟩
  | .hbm, ⟨90, _⟩ => ⟨S4096x11, .f32⟩
  | .hbm, ⟨91, _⟩ => ⟨S1x11, .f32⟩
  | .hbm, ⟨92, _⟩ => ⟨S4096x11, .f32⟩
  | .hbm, ⟨93, _⟩ => ⟨S4096x11, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_cst : Ref sig .tc := ⟨.hbm, 39, rfl⟩
abbrev main_v1 : Ref sig .tc := ⟨.hbm, 40, rfl⟩
abbrev main_cst_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call1_cst : Ref sig .tc := ⟨.hbm, 64, rfl⟩
abbrev main_call1_v0 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_2 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call2_cst : Ref sig .tc := ⟨.hbm, 87, rfl⟩
abbrev main_call2_v0 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩

abbrev nD : Nat := 1
abbrev τ : Topo := Topo.v7x

variable {F : FTy → Type} [FloatOps F]
-- ==== Proof.Base.lean ====
/-
  The lookup-and-pool launch as its proof sees it: the program's configuration, the ghost algebra, the buffers and
  windows a tile of the SparseCore kernel addresses, and the VALUE the kernel computes per row of its result — the
  running sum of 200 rows of the table, in the kernel's order, times the named reciprocal of the length.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the program's shape. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers -/

abbrev xLoc (d : Dev nD) : Loc nD τ sig := (SparseCore.T d).loc main_v0
abbrev eLoc (d : Dev nD) : Loc nD τ sig := (SparseCore.T d).loc main_arg1
abbrev oLoc (d : Dev nD) : Loc nD τ sig := (SparseCore.T d).loc main_v1

/-- The lists (`x` cut into 4 lists of 50 a row), the table, the pooled rows. -/
abbrev xV : Memref sig Kind.scVector Space.hbm S4096x4x50 EltTy.i32 := Memref.whole main_v0_scv
abbrev eV : Memref sig Kind.scVector Space.hbm S100000x128 EltTy.f32 := Memref.whole main_arg1_scv
abbrev oV : Memref sig Kind.scVector Space.hbm S4096x128 EltTy.f32 := Memref.whole main_v1_scv
/-- A tile's scratch: its 128 rows' lists, the eight row slots, the 32 pooled rows gathered for one write-out. -/
abbrev lV : Memref sig Kind.scVector Space.vmem S128x4x50 EltTy.i32 := Memref.whole cc0_scratch0
abbrev rV : Memref sig Kind.scVector Space.vmem S8x50x128 EltTy.f32 := Memref.whole cc0_scratch1
abbrev aV : Memref sig Kind.scVector Space.vmem S32x128 EltTy.f32 := Memref.whole cc0_scratch2

/-! ## A tile -/

abbrev cV (i : grid0.Coords) : Fin τ.nSC := (i 0).castLE hcore0
abbrev jV (i : grid0.Coords) : Fin τ.nSub := (i 1).castLE hsub0
abbrev VT (d : Dev nD) (i : grid0.Coords) : Thread nD τ := V d (cV i) (jV i)

/-- The tile's first row of the result. -/
def base (i : grid0.Coords) : ℕ := 256 * (i 1).val + 128 * (i 0).val

/-- A tile's rows are rows of the array. -/
theorem base_le (i : grid0.Coords) : base i + 128 ≤ 4096 := by
  have h0 : (i 0).val < 2 := (i 0).isLt
  have h1 : (i 1).val < 16 := (i 1).isLt
  unfold base; omega

/-- Row slot `k`, as 50 rows. -/
abbrev slotM (k : ℕ) (h : ∀ a, (![k, 0, 0] : Fin 3 → ℕ) a + S1x50x128.size a ≤ S8x50x128.size a) :
    Memref sig .scVector .vmem S50x128 .f32 :=
  ((rV).slice (Rect.unit (s := S8x50x128) ![k, 0, 0] S1x50x128.size h) (fun _ => rfl)).squeeze S50x128 squeezes_S1x50x128_S50x128

/-- The list at offsets `off` of the tile's lists. -/
abbrev listM (off : Fin 3 → ℕ) (h : ∀ a, off a + S1x1x50.size a ≤ S128x4x50.size a) : Memref sig .scVector .vmem S50 .i32 :=
  ((lV).slice (Rect.unit (s := S128x4x50) off S1x1x50.size h) (fun _ => rfl)).squeeze S50 squeezes_S1x1x50_S50

/-- All of the table. -/
abbrev srcM : Memref sig .scVector .hbm S100000x128 .f32 :=
  (eV).slice (Rect.unit (s := S100000x128) ![0, 0] S100000x128.size inb_S100000x128_S100000x128_0_0) (fun _ => rfl)

/-! ## The value -/

/-- The row of the table a word names (a word out of range: some row). -/
def rowOf (w : BitVec 32) : Fin 100000 := ⟨w.toNat % 100000, Nat.mod_lt _ (by decide)⟩

section Value

variable [FloatOps F] [Named F]

/-- The sum of the first `n` of 200 table rows at one column: word `n` is entry `n % 50` of list `n / 50`. -/
def sumTo (E : S100000x128.Idx → F .f32) (w : Fin 4 → Fin 50 → BitVec 32) (j : Fin 128) : ℕ → F .f32
  | 0 => Scalar.ofBits .f32 0x00000000#32
  | n + 1 => FloatOps.addf (sumTo E w j n) (E (ix2 (rowOf (w (Fin.ofNat 4 (n / 50)) (Fin.ofNat 50 n))) j))

/-- The pooled element: the sum of all 200 times the named reciprocal of the length. -/
def poolAt (E : S100000x128.Idx → F .f32) (w : Fin 4 → Fin 50 → BitVec 32) (j : Fin 128) : F .f32 :=
  FloatOps.mulf (sumTo E w j 200) (Named.named κ "inv_len" 0x3BA3D70A#32)

/-- The pooled rows, all 4096 of them. -/
def pooled (E : S100000x128.Idx → F .f32) (X : S4096x4x50.Idx → BitVec 32) : S4096x128.Idx → F .f32 :=
  fun o => poolAt E (fun q e => X (ix3 (o 0) q e)) (o 1)

end Value

/-- What a gather over list `(r, q)` puts in a row slot. -/
def rowAt (E : S100000x128.Idx → F .f32) (L : S128x4x50.Idx → BitVec 32) (r : Fin 128) (q : Fin 4) : S8x50x128.Idx → F .f32 :=
  fun x => E (ix2 (rowOf (L (ix3 r q (x 1)))) (x 2))

/-- A word below the table's height names its own row. -/
theorem rowOf_of_lt (w : BitVec 32) (h : w.toNat < 100000) : (rowOf w).val = w.toNat := Nat.mod_eq_of_lt h

/-! ## What a gather delivers -/

/-- Where an element of slot `k` lies in the row buffer. -/
theorem slotM_emb (k : ℕ) (h) (a : Fin 50) (b : Fin 128) :
    ((((slotM k h).view.emb (ix2 a b) : S8x50x128.Idx) 1).val = a.val) ∧ (((slotM k h).view.emb (ix2 a b) : S8x50x128.Idx) 2).val = b.val := by
  have e : Shape.reshapeEquiv (s := S1x50x128) (s' := S50x128) squeezes_S1x50x128_S50x128.numel_eq (ix2 a b) = ix3 (0 : Fin 1) a b :=
    Shape.reshapeEquiv_eq_of_rowMajor _ (by
      rw [show S1x50x128.rowMajor (ix3 (0 : Fin 1) a b) = _ from rfl, Shape.rowMajor_val_three, show S50x128.rowMajor (ix2 a b) = _ from rfl, Shape.rowMajor_val_two]
      simp)
  have e' : (slotM k h).view.emb (ix2 a b) = (Rect.unit (s := S8x50x128) ![k, 0, 0] S1x50x128.size h).emb (ix3 (0 : Fin 1) a b) := by
    show (Rect.unit (s := S8x50x128) ![k, 0, 0] S1x50x128.size h).emb (Shape.reshapeEquiv (s := S1x50x128) (s' := S50x128) squeezes_S1x50x128_S50x128.numel_eq (ix2 a b)) = _
    rw [e]
  rw [e']
  constructor
  · show 0 + 1 * a.val = a.val; omega
  · show 0 + 1 * b.val = b.val; omega

/-- Where a word of list `(r, q)` lies in the list buffer. -/
theorem listM_emb (off : Fin 3 → ℕ) (h) (r : Fin 128) (q : Fin 4) (ho : off = ![r.val, q.val, 0]) (a : Fin 50) :
    ((listM off h).view.emb (ix1 a) : S128x4x50.Idx) = ix3 r q a := by
  have e : Shape.reshapeEquiv (s := S1x1x50) (s' := S50) squeezes_S1x1x50_S50.numel_eq (ix1 a) = ix3 (0 : Fin 1) (0 : Fin 1) a :=
    Shape.reshapeEquiv_eq_of_rowMajor _ (by
      rw [show S1x1x50.rowMajor (ix3 (0 : Fin 1) (0 : Fin 1) a) = _ from rfl, Shape.rowMajor_val_three, show S50.rowMajor (ix1 a) = _ from rfl, Shape.rowMajor_val_one]
      simp)
  have e' : (listM off h).view.emb (ix1 a) = (Rect.unit (s := S128x4x50) off S1x1x50.size h).emb (ix3 (0 : Fin 1) (0 : Fin 1) a) := by
    show (Rect.unit (s := S128x4x50) off S1x1x50.size h).emb (Shape.reshapeEquiv (s := S1x1x50) (s' := S50) squeezes_S1x1x50_S50.numel_eq (ix1 a)) = _
    rw [e]
  rw [e']; subst ho
  funext b
  match b with
  | ⟨0, _⟩ => exact Fin.ext (show r.val + 1 * 0 = r.val by omega)
  | ⟨1, _⟩ => exact Fin.ext (show q.val + 1 * 0 = q.val by omega)
  | ⟨2, _⟩ => exact Fin.ext (show 0 + 1 * a.val = a.val by omega)

/-- The gather's source is the whole table. -/
theorem srcM_emb (x : S100000x128.Idx) : ((srcM).view.emb x : S100000x128.Idx) = x := by
  funext b
  match b with
  | ⟨0, _⟩ => exact Fin.ext (show 0 + 1 * (x 0).val = (x 0).val by omega)
  | ⟨1, _⟩ => exact Fin.ext (show 0 + 1 * (x 1).val = (x 1).val by omega)

/-- What a gather over a list of valid words leaves in the row buffer. -/
theorem gather_val (E : S100000x128.Idx → F .f32) (L : S128x4x50.Idx → BitVec 32) (fd : S8x50x128.Idx → F .f32) (k : ℕ) (h)
    (off : Fin 3 → ℕ) (ho) (r : Fin 128) (q : Fin 4) (hoff : off = ![r.val, q.val, 0]) (hn : S50.numel = S50x128.size gathers_S100000x128_S50x128.axis')
    (hin : ∀ x, ((listM off ho).view.read (Elt F) L x).toNat < S100000x128.size gathers_S100000x128_S50x128.axis)
    (x : S8x50x128.Idx) (hx : x ∈ (slotM k h).view.set) :
    (slotM k h).view.write (Elt F) fd (SparseCore.gatherPayload gathers_S100000x128_S50x128 ((srcM).view.read (Elt F) E)
        (SparseCore.rows ((listM off ho).view.read (Elt F) L) hn hin)) Finset.univ x = rowAt E L r q x := by
  obtain ⟨y, -, rfl⟩ := Finset.mem_map.mp hx
  rw [View.write_emb_of_mem _ _ (Finset.mem_univ _), cast_eq]
  rw [eq_ix2 (n0 := 50) (n1 := 128) y]
  obtain ⟨a, ha⟩ : ∃ a : Fin 50, a = y 0 := ⟨_, rfl⟩
  obtain ⟨b, hb⟩ : ∃ b : Fin 128, b = y 1 := ⟨_, rfl⟩
  rw [← ha, ← hb]
  obtain ⟨h1, h2⟩ := slotM_emb k h a b
  unfold SparseCore.gatherPayload rowAt
  rw [View.read_apply, cast_eq, srcM_emb]
  congr 1
  rw [show (((slotM k h).view.emb (ix2 a b) : S8x50x128.Idx) 1) = a from Fin.ext h1, show (((slotM k h).view.emb (ix2 a b) : S8x50x128.Idx) 2) = b from Fin.ext h2]
  funext c
  match c with
  | ⟨0, _⟩ =>
    refine (Shape.Gathers.idx_axis gathers_S100000x128_S50x128 _ _).trans ?_
    apply Fin.ext
    show ((listM off ho).view.read (Elt F) L (S50.rowMajor.symm (Fin.cast _ a))).toNat = (rowOf (L (ix3 r q a))).val
    have e : (S50.rowMajor.symm (Fin.cast hn.symm a) : S50.Idx) = (ix1 a : S50.Idx) := by
      refine (Equiv.symm_apply_eq _).mpr ?_; apply Fin.ext
      rw [show S50.rowMajor (ix1 a) = _ from rfl, Shape.rowMajor_val_one]; rfl
    have hr : (listM off ho).view.read (Elt F) L (S50.rowMajor.symm (Fin.cast hn.symm a)) = L (ix3 r q a) := by
      rw [e, View.read_apply, cast_eq, listM_emb off ho r q hoff]
    refine (congrArg BitVec.toNat hr).trans (rowOf_of_lt _ ?_).symm
    have := hin (S50.rowMajor.symm (Fin.cast hn.symm a)); rw [hr] at this; exact this
  | ⟨1, _⟩ => exact Fin.ext (Shape.Gathers.idx_of_ne gathers_S100000x128_S50x128 _ _ ⟨1, by decide⟩ (by decide))

end Cert.Proof.Lookup
-- ==== Proof.Accum.lean ====
/-
  One row slot's contribution to the sum: the counted loop of 50 trips that adds the slot's 50 rows, lane by lane, to
  the eight carried vectors. The eight printed loops are one loop over eight offsets, so its rule is proved once.
-/
module

public import proofs.«01_k».proof.Proof.Base

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The eight vectors a row's sum is carried in. -/
abbrev C8 (F : FTy → Type) : Type :=
  FVec F S16 .f32 × FVec F S16 .f32 × FVec F S16 .f32 × FVec F S16 .f32 × FVec F S16 .f32 × FVec F S16 .f32 × FVec F S16 .f32 × FVec F S16 .f32

/-- Column `l` of the `j`-th sixteen. -/
def colOf (j : Fin 8) (l : S16.Idx) : Fin 128 := ⟨16 * j.val + (l 0).val, by have := (l 0).isLt; have : (l 0).val < 16 := this; omega⟩

section Value

variable [FloatOps F] [Named F]

def vecSum (E : S100000x128.Idx → F .f32) (w : Fin 4 → Fin 50 → BitVec 32) (n : ℕ) (j : Fin 8) : FVec F S16 .f32 :=
  fun l => sumTo E w (colOf j l) n

/-- The carry after the first `n` words. -/
def carry (E : S100000x128.Idx → F .f32) (w : Fin 4 → Fin 50 → BitVec 32) (n : ℕ) : C8 F :=
  (vecSum E w n 0, vecSum E w n 1, vecSum E w n 2, vecSum E w n 3, vecSum E w n 4, vecSum E w n 5, vecSum E w n 6, vecSum E w n 7)

end Value

/-- An index lies in slot `k` exactly when its first coordinate is `k`. -/
theorem slot_set (k : ℕ) (h) (x : S8x50x128.Idx) : x ∈ (slotM k h).view.set ↔ (x 0).val = k := by
  have e : (slotM k h).view.set = (Rect.unit (s := S8x50x128) ![k, 0, 0] S1x50x128.size h).set := by
    show (((rV).slice (Rect.unit (s := S8x50x128) ![k, 0, 0] S1x50x128.size h) (fun _ => rfl)).view.reshape S50x128 squeezes_S1x50x128_S50x128.numel_eq).set = _
    rw [View.set_reshape]
    exact View.set_slice_whole _ _
  rw [e, Rect.mem_set_unit]
  constructor
  · intro hx
    have := hx 0
    have h1 : k ≤ (x 0).val := this.1
    have h2 : (x 0).val < k + 1 := this.2
    omega
  · intro hx a
    match a with
    | ⟨0, _⟩ => exact ⟨show k ≤ (x 0).val by omega, show (x 0).val < k + 1 by omega⟩
    | ⟨1, _⟩ => exact ⟨Nat.zero_le _, show (x 1).val < 0 + 50 by have : (x 1).val < 50 := (x 1).isLt; omega⟩
    | ⟨2, _⟩ => exact ⟨Nat.zero_le _, show (x 2).val < 0 + 128 by have : (x 2).val < 128 := (x 2).isLt; omega⟩

/-- A chunk of 16 columns of a slot's row lies in the slot. -/
theorem chunk_subset (k : ℕ) (h) (o : Fin 3 → ℕ) (ho) (kt j : ℕ) (e : o = ![k, kt, j]) :
    (rV).view.setOn (Rect.unit (s := S8x50x128) o S1x1x16.size ho).toLoadRect.set ⊆ (slotM k h).view.set := by
  intro x hx
  rw [slot_set]
  obtain ⟨y, hy, rfl⟩ := Finset.mem_map.mp hx
  have hy' : y ∈ (Rect.unit (s := S8x50x128) o S1x1x16.size ho).set := hy
  rw [Rect.mem_set_unit] at hy'
  have := hy' 0
  subst e
  have h1 : k ≤ (y 0).val := this.1
  have h2 : (y 0).val < k + 1 := this.2
  show (y 0).val = k
  omega

/-- What a chunk of a gathered slot reads: 16 columns of the table row its word names. -/
theorem chunk_val (E : S100000x128.Idx → F .f32) (L : S128x4x50.Idx → BitVec 32) (r : Fin 128) (q : Fin 4) (k : ℕ) (o : Fin 3 → ℕ) (ho)
    (kt : Fin 50) (j : Fin 8) (e : o = ![k, kt.val, 16 * j.val]) :
    (shapeCast S16 ((rV).view.readAt (Elt F) (Rect.unit (s := S8x50x128) o S1x1x16.size ho).toLoadRect (rowAt E L r q)) shapeCasts_S1x1x16_S16 : FVec F S16 .f32) =
      fun l => E (ix2 (rowOf (L (ix3 r q kt))) (colOf j l)) := by
  funext l
  obtain ⟨b, hb⟩ : ∃ b : Fin 16, b = l 0 := ⟨_, rfl⟩
  have hbv : b.val = (l 0).val := congrArg Fin.val hb
  have e1 : Shape.reshapeEquiv (s := S1x1x16) (s' := S16) shapeCasts_S1x1x16_S16 l = ix3 (0 : Fin 1) (0 : Fin 1) b :=
    Shape.reshapeEquiv_eq_of_rowMajor _ (by
      rw [show S1x1x16.rowMajor (ix3 (0 : Fin 1) (0 : Fin 1) b) = _ from rfl, Shape.rowMajor_val_three, show S16.rowMajor l = _ from rfl, Shape.rowMajor_val_one, ← hbv]
      simp)
  show rowAt E L r q ((Rect.unit (s := S8x50x128) o S1x1x16.size ho).emb (Shape.reshapeEquiv (s := S1x1x16) (s' := S16) shapeCasts_S1x1x16_S16 l)) = _
  rw [e1]
  subst e
  unfold rowAt
  have a1 : (((Rect.unit (s := S8x50x128) ![k, kt.val, 16 * j.val] S1x1x16.size ho).emb (ix3 (0 : Fin 1) (0 : Fin 1) b) : S8x50x128.Idx) 1) = kt :=
    Fin.ext (show kt.val + 1 * 0 = kt.val by omega)
  have a2 : (((Rect.unit (s := S8x50x128) ![k, kt.val, 16 * j.val] S1x1x16.size ho).emb (ix3 (0 : Fin 1) (0 : Fin 1) b) : S8x50x128.Idx) 2) = colOf j l :=
    Fin.ext (show 16 * j.val + 1 * b.val = 16 * j.val + (l 0).val by omega)
  rw [a1, a2]

section Loop

variable [FloatOps F] [Named F]

/-- One trip of the inner loop adds one table row to the eight partial sums. -/
theorem add_step (E : S100000x128.Idx → F .f32) (L : S128x4x50.Idx → BitVec 32) (r : Fin 128) (q : Fin 4) (k : ℕ) (o : Fin 3 → ℕ) (ho)
    (kt : Fin 50) (j : Fin 8) (e : o = ![k, kt.val, 16 * j.val]) :
    (addf (vecSum E (fun q e => L (ix3 r q e)) (50 * q.val + kt.val) j)
      (shapeCast S16 ((rV).view.readAt (Elt F) (Rect.unit (s := S8x50x128) o S1x1x16.size ho).toLoadRect (rowAt E L r q)) shapeCasts_S1x1x16_S16 : FVec F S16 .f32)) =
      vecSum E (fun q e => L (ix3 r q e)) (50 * q.val + (kt.val + 1)) j := by
  rw [chunk_val E L r q k o ho kt j e]
  funext l
  have hq : (Fin.ofNat 4 ((50 * q.val + kt.val) / 50)) = q := Fin.ext (by show (50 * q.val + kt.val) / 50 % 4 = q.val; omega)
  have hk : (Fin.ofNat 50 (50 * q.val + kt.val)) = kt := Fin.ext (by show (50 * q.val + kt.val) % 50 = kt.val; omega)
  show FloatOps.addf (sumTo E _ (colOf j l) (50 * q.val + kt.val)) _ = sumTo E _ (colOf j l) (50 * q.val + kt.val + 1)
  rw [sumTo, hq, hk]

/-- The printed loops' region, over its eight offsets. -/
def accBody (i : grid0.Coords) (o0 o1 o2 o3 o4 o5 o6 o7 : Fin k0_t2_loop.trips → Fin 3 → ℕ)
    (h0 : ∀ k a, o0 k a + S1x1x16.size a ≤ S8x50x128.size a) (h1 : ∀ k a, o1 k a + S1x1x16.size a ≤ S8x50x128.size a)
    (h2 : ∀ k a, o2 k a + S1x1x16.size a ≤ S8x50x128.size a) (h3 : ∀ k a, o3 k a + S1x1x16.size a ≤ S8x50x128.size a)
    (h4 : ∀ k a, o4 k a + S1x1x16.size a ≤ S8x50x128.size a) (h5 : ∀ k a, o5 k a + S1x1x16.size a ≤ S8x50x128.size a)
    (h6 : ∀ k a, o6 k a + S1x1x16.size a ≤ S8x50x128.size a) (h7 : ∀ k a, o7 k a + S1x1x16.size a ≤ S8x50x128.size a)
    (k : Fin k0_t2_loop.trips) (acc : C8 F) : Prog (TpuEff nD τ sig (Elt F) Λ₀ (.scVector (cV i) (jV i))) (C8 F) := do
  let v0 : Vec F S1x1x16 .f32 ← Prog.lift (.load rV (Rect.unit (s := S8x50x128) (o0 k) S1x1x16.size (h0 k)).toLoadRect (View.loadsAt_vmem h_S1x1x16))
  let v1 : Vec F S1x1x16 .f32 ← Prog.lift (.load rV (Rect.unit (s := S8x50x128) (o1 k) S1x1x16.size (h1 k)).toLoadRect (View.loadsAt_vmem h_S1x1x16))
  let v2 : Vec F S1x1x16 .f32 ← Prog.lift (.load rV (Rect.unit (s := S8x50x128) (o2 k) S1x1x16.size (h2 k)).toLoadRect (View.loadsAt_vmem h_S1x1x16))
  let v3 : Vec F S1x1x16 .f32 ← Prog.lift (.load rV (Rect.unit (s := S8x50x128) (o3 k) S1x1x16.size (h3 k)).toLoadRect (View.loadsAt_vmem h_S1x1x16))
  let v4 : Vec F S1x1x16 .f32 ← Prog.lift (.load rV (Rect.unit (s := S8x50x128) (o4 k) S1x1x16.size (h4 k)).toLoadRect (View.loadsAt_vmem h_S1x1x16))
  let v5 : Vec F S1x1x16 .f32 ← Prog.lift (.load rV (Rect.unit (s := S8x50x128) (o5 k) S1x1x16.size (h5 k)).toLoadRect (View.loadsAt_vmem h_S1x1x16))
  let v6 : Vec F S1x1x16 .f32 ← Prog.lift (.load rV (Rect.unit (s := S8x50x128) (o6 k) S1x1x16.size (h6 k)).toLoadRect (View.loadsAt_vmem h_S1x1x16))
  let v7 : Vec F S1x1x16 .f32 ← Prog.lift (.load rV (Rect.unit (s := S8x50x128) (o7 k) S1x1x16.size (h7 k)).toLoadRect (View.loadsAt_vmem h_S1x1x16))
  pure (addf acc.1 (shapeCast S16 v0 shapeCasts_S1x1x16_S16), addf acc.2.1 (shapeCast S16 v1 shapeCasts_S1x1x16_S16),
    addf acc.2.2.1 (shapeCast S16 v2 shapeCasts_S1x1x16_S16), addf acc.2.2.2.1 (shapeCast S16 v3 shapeCasts_S1x1x16_S16),
    addf acc.2.2.2.2.1 (shapeCast S16 v4 shapeCasts_S1x1x16_S16), addf acc.2.2.2.2.2.1 (shapeCast S16 v5 shapeCasts_S1x1x16_S16),
    addf acc.2.2.2.2.2.2.1 (shapeCast S16 v6 shapeCasts_S1x1x16_S16), addf acc.2.2.2.2.2.2.2 (shapeCast S16 v7 shapeCasts_S1x1x16_S16))

/-- The inner loop runs once for each word of a list. -/
theorem trips_50 : k0_t2_loop.trips = 50 := by decide

/-- The loop over row slot `k` holding list `(r, q)`'s rows: the carry goes from the sum of the lists before `q` to the sum of the lists up to `q`. -/
theorem wp_acc (d : Dev nD) (i : grid0.Coords) (o0 o1 o2 o3 o4 o5 o6 o7 : Fin k0_t2_loop.trips → Fin 3 → ℕ) (h0 h1 h2 h3 h4 h5 h6 h7)
    (E : S100000x128.Idx → F .f32) (L : S128x4x50.Idx → BitVec 32) (r : Fin 128) (q : Fin 4) (k : ℕ) (h)
    (e0 : ∀ t, o0 t = ![k, t.val, 0]) (e1 : ∀ t, o1 t = ![k, t.val, 16]) (e2 : ∀ t, o2 t = ![k, t.val, 32]) (e3 : ∀ t, o3 t = ![k, t.val, 48])
    (e4 : ∀ t, o4 t = ![k, t.val, 64]) (e5 : ∀ t, o5 t = ![k, t.val, 80]) (e6 : ∀ t, o6 t = ![k, t.val, 96]) (e7 : ∀ t, o7 t = ![k, t.val, 112])
    {β : Type} (n : ℕ) (hn : n = 50 * q.val) (kk : C8 F → Prog (TpuEff nD τ sig (Elt F) Λ₀ (.scVector (cV i) (jV i))) β) (Q : β → sProp 𝕄) :
    ((slotM k h).view.loc (VT d i) ↦[(slotM k h).view.set]{fullShare} rowAt E L r q) ⊢
      iprop((((slotM k h).view.loc (VT d i) ↦[(slotM k h).view.set]{fullShare} rowAt E L r q) -∗
          wp frame (wpE (defs₀ (F := F)) 𝒱₀ (VT d i) none) Set.univ (kk (carry E (fun q e => L (ix3 r q e)) (n + 50))) Q) -∗
        wp frame (wpE (defs₀ (F := F)) 𝒱₀ (VT d i) none) Set.univ
          (Scf.Loop.for k0_t2_loop k0_t2_ok (carry E (fun q e => L (ix3 r q e)) n) (accBody i o0 o1 o2 o3 o4 o5 o6 o7 h0 h1 h2 h3 h4 h5 h6 h7) >>= kk) Q) := by
  subst hn
  iintro H HK
  iapply (Scf.wp_for_bind frame (wpE (defs₀ (F := F)) 𝒱₀ (VT d i) none) Set.univ k0_t2_loop.lb k0_t2_loop.ub k0_t2_loop.st k0_t2_ok
    (carry E (fun q e => L (ix3 r q e)) (50 * q.val)) (accBody i o0 o1 o2 o3 o4 o5 o6 o7 h0 h1 h2 h3 h4 h5 h6 h7)
    (fun t acc => iprop(⌜acc = carry E (fun q e => L (ix3 r q e)) (50 * q.val + t)⌝ ∗
      ((slotM k h).view.loc (VT d i) ↦[(slotM k h).view.set]{fullShare} rowAt E L r q))) ?body) $$ [H]
  case body =>
    intro t acc
    have ht : t.val < 50 := lt_of_lt_of_eq t.isLt trips_50
    iintro ⟨%ha, H⟩
    subst ha
    unfold accBody
    iapply (wp_load 𝒱₀ (VT d i) none Set.univ (m := rV) (chunk_subset k h (o0 t) (h0 t) t.val 0 (e0 t))) $$ H
    iintro H
    iapply (wp_load 𝒱₀ (VT d i) none Set.univ (m := rV) (chunk_subset k h (o1 t) (h1 t) t.val 16 (e1 t))) $$ H
    iintro H
    iapply (wp_load 𝒱₀ (VT d i) none Set.univ (m := rV) (chunk_subset k h (o2 t) (h2 t) t.val 32 (e2 t))) $$ H
    iintro H
    iapply (wp_load 𝒱₀ (VT d i) none Set.univ (m := rV) (chunk_subset k h (o3 t) (h3 t) t.val 48 (e3 t))) $$ H
    iintro H
    iapply (wp_load 𝒱₀ (VT d i) none Set.univ (m := rV) (chunk_subset k h (o4 t) (h4 t) t.val 64 (e4 t))) $$ H
    iintro H
    iapply (wp_load 𝒱₀ (VT d i) none Set.univ (m := rV) (chunk_subset k h (o5 t) (h5 t) t.val 80 (e5 t))) $$ H
    iintro H
    iapply (wp_load 𝒱₀ (VT d i) none Set.univ (m := rV) (chunk_subset k h (o6 t) (h6 t) t.val 96 (e6 t))) $$ H
    iintro H
    iapply (wp_load 𝒱₀ (VT d i) none Set.univ (m := rV) (chunk_subset k h (o7 t) (h7 t) t.val 112 (e7 t))) $$ H
    iintro H
    iapply (le_wp_ret _ _)
    isplitr [H]
    · ipureintro
      exact Prod.ext (add_step E L r q k (o0 t) (h0 t) ⟨t.val, ht⟩ 0 (e0 t)) (Prod.ext (add_step E L r q k (o1 t) (h1 t) ⟨t.val, ht⟩ 1 (e1 t))
        (Prod.ext (add_step E L r q k (o2 t) (h2 t) ⟨t.val, ht⟩ 2 (e2 t)) (Prod.ext (add_step E L r q k (o3 t) (h3 t) ⟨t.val, ht⟩ 3 (e3 t))
        (Prod.ext (add_step E L r q k (o4 t) (h4 t) ⟨t.val, ht⟩ 4 (e4 t)) (Prod.ext (add_step E L r q k (o5 t) (h5 t) ⟨t.val, ht⟩ 5 (e5 t))
        (Prod.ext (add_step E L r q k (o6 t) (h6 t) ⟨t.val, ht⟩ 6 (e6 t)) (add_step E L r q k (o7 t) (h7 t) ⟨t.val, ht⟩ 7 (e7 t))))))))
    · iexact H
  · isplitr [H]
    · ipureintro; rfl
    · iexact H
  · iintro %acc ⟨%ha, H⟩
    subst ha
    rw [show (50 * q.val + Scf.trips k0_t2_loop.lb k0_t2_loop.ub k0_t2_loop.st) = 50 * q.val + 50 from congrArg _ trips_50]
    iapply HK $$ H

end Loop

end Cert.Proof.Lookup
-- ==== Proof.Slot.lean ====
/-
  A row slot's protocol: IDLE (its rows, its shares of the table and of the lists, its semaphore at zero), BUSY with a
  list's gather in flight, and the two steps between them — the issue and the wait.
-/
module

public import proofs.«01_k».proof.Proof.Accum

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tile's three scratch buffers. -/
abbrev lLoc (d : Dev nD) (i : grid0.Coords) : Loc nD τ sig := (lV).view.loc (VT d i)
abbrev rLoc (d : Dev nD) (i : grid0.Coords) : Loc nD τ sig := (rV).view.loc (VT d i)
abbrev aLoc (d : Dev nD) (i : grid0.Coords) : Loc nD τ sig := (aV).view.loc (VT d i)

section

variable (d : Dev nD) (i : grid0.Coords) (E : S100000x128.Idx → F .f32) (L : S128x4x50.Idx → BitVec 32)

/-- A slot's shares: of the table and of the lists. -/
def Shares (pe pl : PosShare TreeShare) : sProp 𝕄 :=
  iprop(((srcM).view.loc (VT d i) ↦[(srcM).view.set]{pe} E) ∗ (lLoc d i ↦{pl} L))

/-- Slot `k` idle. -/
def Idle (k : ℕ) (h : ∀ a, (![k, 0, 0] : Fin 3 → ℕ) a + S1x50x128.size a ≤ S8x50x128.size a) (sem : DmaSem sig) (pe pl : PosShare TreeShare) : sProp 𝕄 :=
  iprop((∃ f, (slotM k h).view.loc (VT d i) ↦[(slotM k h).view.set]{fullShare} f) ∗ Shares d i E L pe pl ∗ semVal (VT d i, SemLoc.dma sem) 0)

/-- Slot `k` with list `(r, q)`'s gather in flight: the part `S` of the lists it reads is in flight with it, the rest of its share is here. -/
def Busy (k : ℕ) (h : ∀ a, (![k, 0, 0] : Fin 3 → ℕ) a + S1x50x128.size a ≤ S8x50x128.size a) (sem : DmaSem sig) (pe pl : PosShare TreeShare) (r : Fin 128) (q : Fin 4) : sProp 𝕄 :=
  iprop(∃ S : Finset S128x4x50.Idx, Transfers.Flight countersEmb (VT d i) (.dma sem) (default : HIx 1) (slotM k h).view.dmaCredit
      iprop(((slotM k h).view.loc (VT d i) ↦[(slotM k h).view.set]{fullShare} rowAt E L r q)
        ∗ ((srcM).view.loc (VT d i) ↦[(srcM).view.set]{pe} E) ∗ (lLoc d i ↦[S]{pl} L))
    ∗ (lLoc d i ↦[Finset.univ \ S]{pl} L))

end

section Steps

variable [FloatOps F] [Named F]

/-- A gather raises its counter by the bytes of a slot. -/
theorem credit_eq (k : ℕ) (h) : ∑ j, ((slotM k h).slice (S50x128.rowRect gathers_S100000x128_S50x128.axis' j)
    (S50x128.stride_rowRect gathers_S100000x128_S50x128.axis' j)).view.dmaCredit = (slotM k h).view.dmaCredit := by
  show ∑ j : Fin (S50x128.size gathers_S100000x128_S50x128.axis'), (cc0_scratch1 : Ref sig .scVector).dmaCredit (S50x128.rowRect gathers_S100000x128_S50x128.axis' j).shape .f32
    = (cc0_scratch1 : Ref sig .scVector).dmaCredit S50x128 .f32
  decide

/-- Beginning a gather into a free slot. -/
theorem wp_issue (d : Dev nD) (i : grid0.Coords) (E : S100000x128.Idx → F .f32) (L : S128x4x50.Idx → BitVec 32)
    (hL : ∀ x, (L x).toNat < 100000) (k : ℕ) (h) (sem : DmaSem sig) (pe pl : PosShare TreeShare) (off : Fin 3 → ℕ) (ho) (r : Fin 128) (q : Fin 4)
    (hoff : off = ![r.val, q.val, 0]) {hn} {hp} {hsrc} {he} {hsp} {hr} {β : Type}
    (kk : PUnit.{1} → Prog (TpuEff nD τ sig (Elt F) Λ₀ (.scVector (cV i) (jV i))) β) (Q : β → sProp 𝕄) :
    Idle d i E L k h sem pe pl ⊢ iprop((Busy d i E L k h sem pe pl r q -∗ wp frame (wpE (defs₀ (F := F)) 𝒱₀ (VT d i) none) Set.univ (kk ⟨⟩) Q)
      -∗ wp frame (wpE (defs₀ (F := F)) 𝒱₀ (VT d i) none) Set.univ
        (SparseCore.enqueueIndirectGather hp (srcM) (slotM k h) gathers_S100000x128_S50x128 (listM off ho) hn sem hsrc he hsp hr >>= kk) Q) := by
  have hin : ∀ x, ((listM off ho).view.read (Elt F) L x).toNat < S100000x128.size gathers_S100000x128_S50x128.axis := by
    intro x
    rw [View.read_apply, cast_eq]
    exact hL _
  unfold Idle Shares
  iintro ⟨⟨%f, Hs⟩, ⟨He, Hl⟩, Hsem⟩ HK
  ihave Hls := (pointsTo_split_subset (ℓ := lLoc d i) (q := pl) (f := L) (S := Finset.univ) (Finset.subset_univ (listM off ho).view.set)).1 $$ Hl
  icases Hls with ⟨Hw, Hrest⟩
  iapply (SparseCore.wp_indirectGatherLocal countersEmb 𝒱₀ (VT d i) none (hg := gathers_S100000x128_S50x128) (default : HIx 1)
      (slotM k h).view.dmaCredit (credit_eq k h) (by decide) hin) $$ [He Hs Hw Hsem]
  · isplitl [He]; · iexact He
    isplitl [Hs]; · iexact Hs
    isplitl [Hw]; · iexact Hw
    iexact Hsem
  iintro Hfl
  iapply HK
  unfold Busy
  iexists (listM off ho).view.set
  isplitl [Hfl]
  · iapply (Transfers.Flight_mono countersEmb (VT d i) ?_) $$ Hfl
    iintro ⟨Hs, He, Hw⟩
    isplitl [Hs]
    · iapply (Entails.of_eq (pointsTo_congr (fun x hx => gather_val E L f k h off ho r q hoff hn hin x hx))) $$ Hs
    · isplitl [He]; · iexact He
      iexact Hw
  · iexact Hrest

/-- Waiting for a gather: the slot then holds the list's table rows. -/
theorem wp_await (d : Dev nD) (i : grid0.Coords) (E : S100000x128.Idx → F .f32) (L : S128x4x50.Idx → BitVec 32)
    (k : ℕ) (h) (sem : DmaSem sig) (pe pl : PosShare TreeShare) (r : Fin 128) (q : Fin 4) (O : CellTallies nD τ sig (HIx 1)) (W : Waits sig (HIx 1))
    {hsrc} {hdst} {β : Type} (kk : PUnit.{1} → Prog (TpuEff nD τ sig (Elt F) Λ₀ (.scVector (cV i) (jV i))) β) (Q : β → sProp 𝕄) :
    iprop(Transfers.MayWaits (VT d i) (default : HIx 1) O ∗ Busy d i E L k h sem pe pl r q ∗ owes (VT d i) O W) ⊢
      iprop((iprop(((slotM k h).view.loc (VT d i) ↦[(slotM k h).view.set]{fullShare} rowAt E L r q) ∗ Shares d i E L pe pl ∗ semVal (VT d i, SemLoc.dma sem) 0
          ∗ owes (VT d i) O (insert (SemLoc.dma sem, (default : HIx 1)) W)) -∗ wp frame (wpE (defs₀ (F := F)) 𝒱₀ (VT d i) none) Set.univ (kk ⟨⟩) Q)
      -∗ wp frame (wpE (defs₀ (F := F)) 𝒱₀ (VT d i) none) Set.univ (SparseCore.waitIndirectGather sem (srcM) (slotM k h) hsrc hdst >>= kk) Q) := by
  unfold Busy Shares
  iintro ⟨Hmw, ⟨%S, Hfl, Hrest⟩, HO⟩ HK
  iapply (Transfers.wp_waitLocalO countersEmb 𝒱₀ (VT d i) none (default : HIx 1) (rfl : (slotM k h).view.dmaCredit = _)) $$ [Hfl HO Hmw]
  · isplitl [Hfl]; · iexact Hfl
    isplitl [HO]; · iexact HO
    iapply (Transfers.MayWaits.elim (SemLoc.dma sem)) $$ Hmw
  iintro ⟨⟨Hs, He, Hw⟩, Hsem, HO⟩
  iapply HK
  isplitl [Hs]; · iexact Hs
  isplitl [He Hw Hrest]
  · isplitl [He]; · iexact He
    iapply (pointsTo_split_subset (ℓ := lLoc d i) (q := pl) (f := L) (S := Finset.univ) (Finset.subset_univ S)).2
    isplitl [Hw]; · iexact Hw
    iexact Hrest
  isplitl [Hsem]; · iexact Hsem
  iexact HO

end Steps

end Cert.Proof.Lookup
-- ==== Proof.Phase.lean ====
/-
  The steps of one trip of the main loop, each over an arbitrary row slot or an arbitrary sixteen columns: a slot's
  wait and accumulation, its next issue (unless the lists have run out), and the store of sixteen pooled columns.
-/
module

public import proofs.«01_k».proof.Proof.Slot

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- What the tile owes, its waits so far grown by waits of its own only. -/
def Owe (d : Dev nD) (i : grid0.Coords) (O : CellTallies nD τ sig (HIx 1)) (W : Waits sig (HIx 1)) : sProp 𝕄 :=
  iprop(∃ W', ⌜∀ p ∈ W', p ∈ W ∨ p.2 = none⌝ ∗ owes (VT d i) O W')

/-- At the start a tile owes nothing on its own counters. -/
theorem Owe_start (d : Dev nD) (i : grid0.Coords) (O : CellTallies nD τ sig (HIx 1)) (W : Waits sig (HIx 1)) :
    (owes (VT d i) O W : sProp 𝕄) ⊢ Owe d i O W := by
  unfold Owe
  iintro H; iexists W; isplitr
  · ipureintro; exact fun p hp => Or.inl hp
  · iexact H

/-- The local row list number `n` belongs to, and which of its four it is. -/
def rowNo (n : ℕ) : Fin 128 := Fin.ofNat 128 (n / 4)
/-- The quarter of a step. -/
def partNo (n : ℕ) : Fin 4 := Fin.ofNat 4 n

section

variable (d : Dev nD) (i : grid0.Coords) (E : S100000x128.Idx → F .f32) (L : S128x4x50.Idx → BitVec 32)

/-- Slot `k` between trips: list number `n`'s gather in flight, or idle once the lists have run out. -/
def SlotAt (k : ℕ) (h : ∀ a, (![k, 0, 0] : Fin 3 → ℕ) a + S1x50x128.size a ≤ S8x50x128.size a) (sem : DmaSem sig) (pe pl : PosShare TreeShare)
    (n : ℕ) : sProp 𝕄 :=
  if n < 512 then Busy d i E L k h sem pe pl (rowNo n) (partNo n) else Idle d i E L k h sem pe pl

/-- The words of local row `r`. -/
def wordsOf (r : Fin 128) : Fin 4 → Fin 50 → BitVec 32 := fun q e => L (ix3 r q e)

end

section Steps

variable [FloatOps F] [Named F]

/-- The wait for list number `n` in slot `k` and the accumulation of its rows. -/
theorem wp_phase (d : Dev nD) (i : grid0.Coords) (E : S100000x128.Idx → F .f32) (L : S128x4x50.Idx → BitVec 32)
    (k : ℕ) (h) (sem : DmaSem sig) (pe pl : PosShare TreeShare) (n : ℕ) (hn : n < 512) (O : CellTallies nD τ sig (HIx 1)) (W : Waits sig (HIx 1))
    (r : Fin 128) (q : Fin 4) (hr : r = rowNo n) (hq : q = partNo n) (m : ℕ) (hm : m = 50 * q.val)
    (o0 o1 o2 o3 o4 o5 o6 o7 : Fin k0_t2_loop.trips → Fin 3 → ℕ) (h0 h1 h2 h3 h4 h5 h6 h7)
    (e0 : ∀ t, o0 t = ![k, t.val, 0]) (e1 : ∀ t, o1 t = ![k, t.val, 16]) (e2 : ∀ t, o2 t = ![k, t.val, 32]) (e3 : ∀ t, o3 t = ![k, t.val, 48])
    (e4 : ∀ t, o4 t = ![k, t.val, 64]) (e5 : ∀ t, o5 t = ![k, t.val, 80]) (e6 : ∀ t, o6 t = ![k, t.val, 96]) (e7 : ∀ t, o7 t = ![k, t.val, 112])
    (c0 : C8 F) (hc : c0 = carry E (wordsOf L r) m)
    (B : Fin k0_t2_loop.trips → C8 F → Prog (TpuEff nD τ sig (Elt F) Λ₀ (.scVector (cV i) (jV i))) (C8 F))
    (hB : B = accBody i o0 o1 o2 o3 o4 o5 o6 o7 h0 h1 h2 h3 h4 h5 h6 h7)
    {hsrc} {hdst} {hok} {β : Type} (kk : C8 F → Prog (TpuEff nD τ sig (Elt F) Λ₀ (.scVector (cV i) (jV i))) β) (Q : β → sProp 𝕄) :
    iprop(Transfers.MayWaits (VT d i) (default : HIx 1) O ∗ SlotAt d i E L k h sem pe pl n ∗ Owe d i O W) ⊢
      iprop((iprop(Idle d i E L k h sem pe pl ∗ Owe d i O W) -∗
          wp frame (wpE (defs₀ (F := F)) 𝒱₀ (VT d i) none) Set.univ (kk (carry E (wordsOf L r) (m + 50))) Q)
      -∗ wp frame (wpE (defs₀ (F := F)) 𝒱₀ (VT d i) none) Set.univ
          (SparseCore.waitIndirectGather sem (srcM) (slotM k h) hsrc hdst >>= fun _ => Scf.Loop.for k0_t2_loop hok c0 B >>= kk) Q) := by
  subst hr hq hc hB
  unfold SlotAt
  rw [if_pos hn]
  iintro ⟨Hmw, Hb, HO⟩ HK
  unfold Owe
  icases HO with ⟨%W', %hW, HO⟩
  iapply (wp_await d i E L k h sem pe pl (rowNo n) (partNo n) O W') $$ [Hmw Hb HO]
  · isplitl [Hmw]; · iexact Hmw
    isplitl [Hb]; · iexact Hb
    iexact HO
  iintro ⟨Hs, Hsh, Hsem, HO⟩
  iapply (wp_acc d i o0 o1 o2 o3 o4 o5 o6 o7 h0 h1 h2 h3 h4 h5 h6 h7 E L (rowNo n) (partNo n) k h e0 e1 e2 e3 e4 e5 e6 e7 m hm) $$ Hs
  iintro Hs
  iapply HK
  isplitl [Hs Hsh Hsem]
  · unfold Idle
    isplitl [Hs]; · iexists _; iexact Hs
    isplitl [Hsh]; · iexact Hsh
    iexact Hsem
  · iexists _; isplitr
    swap; · iexact HO
    ipureintro; intro p hp
    rcases Finset.mem_insert.mp hp with hp | hp
    · exact .inr (hp ▸ rfl)
    · exact hW p hp

/-- The slot's next issue, guarded by there being another list for it. -/
theorem wp_reissue (d : Dev nD) (i : grid0.Coords) (E : S100000x128.Idx → F .f32) (L : S128x4x50.Idx → BitVec 32)
    (hL : ∀ x, (L x).toNat < 100000) (k : ℕ) (h) (sem : DmaSem sig) (pe pl : PosShare TreeShare) (n : ℕ) (C : Prop) [Decidable C] (hC : C ↔ n < 512)
    (off : Fin 3 → ℕ) (ho : C → ∀ a, off a + S1x1x50.size a ≤ S128x4x50.size a) (r q : ℕ) (hoff : off = ![r, q, 0]) (hr : r = n / 4) (hq : q = n % 4)
    {hn} {hp} {hsrc} {he} {hsp} {hr'} {β : Type} (kk : PUnit.{1} → Prog (TpuEff nD τ sig (Elt F) Λ₀ (.scVector (cV i) (jV i))) β) (Q : β → sProp 𝕄) :
    Idle d i E L k h sem pe pl ⊢ iprop((SlotAt d i E L k h sem pe pl n -∗ wp frame (wpE (defs₀ (F := F)) 𝒱₀ (VT d i) none) Set.univ (kk ⟨⟩) Q)
      -∗ wp frame (wpE (defs₀ (F := F)) 𝒱₀ (VT d i) none) Set.univ
        (if hc : C then SparseCore.enqueueIndirectGather hp (srcM) (slotM k h) gathers_S100000x128_S50x128 (listM off (ho hc)) hn sem hsrc he hsp hr' >>= kk
          else kk ⟨⟩) Q) := by
  iintro H HK
  unfold SlotAt
  by_cases hc : C
  · rw [dif_pos hc, if_pos (hC.mp hc)]
    have hlt := hC.mp hc
    iapply (wp_issue d i E L hL k h sem pe pl off (ho hc) (rowNo n) (partNo n) (by
      subst hoff hr hq
      have e1 : (rowNo n).val = n / 4 := Nat.mod_eq_of_lt (by omega)
      have e2 : (partNo n).val = n % 4 := rfl
      rw [e1, e2])) $$ H
    iexact HK
  · rw [dif_neg hc, if_neg (fun hlt => hc (hC.mpr hlt))]
    iapply HK $$ H

/-! ### The pooled rows in the tile's scratch -/

/-- `A` with the first `c` columns of row `row` at `g`. -/
def fillTo (A : S32x128.Idx → F .f32) (row : ℕ) (g : Fin 128 → F .f32) (c : ℕ) : S32x128.Idx → F .f32 :=
  fun x => if (x 0).val = row ∧ (x 1).val < c then g (x 1) else A x

/-- With no columns written the accumulator is as it was. -/
theorem fillTo_zero (A : S32x128.Idx → F .f32) (row : ℕ) (g : Fin 128 → F .f32) : fillTo A row g 0 = A := by
  funext x; unfold fillTo; rw [if_neg (fun h => Nat.not_lt_zero _ h.2)]

/-- Writing one chunk of a row fills 16 columns more. -/
theorem put_val (A : S32x128.Idx → F .f32) (row : ℕ) (hrow : row < 32) (g : Fin 128 → F .f32) (j : Fin 8) (v : FVec F S16 .f32) (hv : ∀ l, v l = g (colOf j l))
    (off : Fin 2 → ℕ) (ho) (hoff : off = ![row, 16 * j.val]) :
    ((aV).access (Rect.unit (s := S32x128) off S1x16.size ho)).write (Elt F) (fillTo A row g (16 * j.val)) (shapeCast S1x16 v shapeCasts_S16_S1x16) Finset.univ
      = fillTo A row g (16 * j.val + 16) := by
  funext x
  by_cases hx : (x 0).val = row ∧ 16 * j.val ≤ (x 1).val ∧ (x 1).val < 16 * j.val + 16
  · obtain ⟨hx0, hx1, hx2⟩ := hx
    let b : Fin 16 := ⟨(x 1).val - 16 * j.val, by omega⟩
    have e : x = ((aV).access (Rect.unit (s := S32x128) off S1x16.size ho)).emb (ix2 (0 : Fin 1) b) := by
      subst hoff
      funext a
      match a with
      | ⟨0, _⟩ => exact Fin.ext (show (x 0).val = row + 1 * 0 by omega)
      | ⟨1, _⟩ => exact Fin.ext (show (x 1).val = 16 * j.val + 1 * ((x 1).val - 16 * j.val) by omega)
    have hw : ∀ y, shapeCast S1x16 v shapeCasts_S16_S1x16 (ix2 (0 : Fin 1) y) = v (ix1 y) := by
      intro y
      have e1 : Shape.reshapeEquiv (s := S16) (s' := S1x16) shapeCasts_S16_S1x16 (ix2 (0 : Fin 1) y) = ix1 y :=
        Shape.reshapeEquiv_eq_of_rowMajor _ (by
          rw [show S16.rowMajor (ix1 y) = _ from rfl, Shape.rowMajor_val_one, show S1x16.rowMajor (ix2 (0 : Fin 1) y) = _ from rfl, Shape.rowMajor_val_two]
          simp)
      exact congrArg v e1
    have hc : colOf j (ix1 b) = x 1 := Fin.ext (show 16 * j.val + ((x 1).val - 16 * j.val) = (x 1).val by omega)
    unfold fillTo
    rw [if_pos ⟨hx0, hx2⟩]
    conv_lhs => rw [e]
    rw [View.write_emb_of_mem _ _ (Finset.mem_univ _), cast_eq, hw, hv, hc]
  · rw [View.write_of_not_mem]
    · unfold fillTo
      by_cases h0 : (x 0).val = row
      · by_cases h1 : (x 1).val < 16 * j.val
        · rw [if_pos ⟨h0, h1⟩, if_pos ⟨h0, by omega⟩]
        · rw [if_neg (fun h => h1 h.2), if_neg (fun h => hx ⟨h0, by omega, h.2⟩)]
      · rw [if_neg (fun h => h0 h.1), if_neg (fun h => h0 h.1)]
    · intro hm
      apply hx
      obtain ⟨y, -, hy⟩ := Finset.mem_map.mp hm
      subst hoff
      have h0 : (x 0).val = row + 1 * (y 0).val := by rw [← hy]; rfl
      have h1 : (x 1).val = 16 * j.val + 1 * (y 1).val := by rw [← hy]; rfl
      have b0 : (y 0).val < 1 := (y 0).isLt
      have b1 : (y 1).val < 16 := (y 1).isLt
      omega

/-- The store of sixteen pooled columns (the printed load before it is read by nothing). -/
theorem wp_put (d : Dev nD) (i : grid0.Coords) (A : S32x128.Idx → F .f32) (row : ℕ) (hrow : row < 32) (g : Fin 128 → F .f32) (j : Fin 8)
    (v : FVec F S16 .f32) (hv : ∀ l, v l = g (colOf j l)) (c : ℕ) (hc : c = 16 * j.val)
    (off : Fin 2 → ℕ) (ho) (hoff : off = ![row, 16 * j.val]) (pay : FVec F S1x16 .f32) (hpay : pay = shapeCast S1x16 v shapeCasts_S16_S1x16)
    {hst} {hm} {β : Type} (kk : PUnit.{1} → Prog (TpuEff nD τ sig (Elt F) Λ₀ (.scVector (cV i) (jV i))) β) (Q : β → sProp 𝕄) :
    (aLoc d i ↦{fullShare} fillTo A row g c) ⊢
      iprop(((aLoc d i ↦{fullShare} fillTo A row g (c + 16)) -∗ wp frame (wpE (defs₀ (F := F)) 𝒱₀ (VT d i) none) Set.univ (kk ⟨⟩) Q)
      -∗ wp frame (wpE (defs₀ (F := F)) 𝒱₀ (VT d i) none) Set.univ
        (.op (.store aV (Rect.unit (s := S32x128) off S1x16.size ho) pay Finset.univ hst hm) kk) Q) := by
  subst hc hpay
  iintro H HK
  iapply (wp_store 𝒱₀ (VT d i) none Set.univ (m := aV) (r := Rect.unit (s := S32x128) off S1x16.size ho)
    (w := shapeCast S1x16 v shapeCasts_S16_S1x16) (Mk := Finset.univ) (f := fillTo A row g (16 * j.val)) (S := Finset.univ) (Finset.subset_univ _)) $$ H
  iintro H
  iapply HK
  iapply (Entails.of_eq (congrArg (fun f => (aLoc d i ↦{fullShare} f : sProp 𝕄)) (put_val A row hrow g j v hv off ho hoff))) $$ H

/-- The printed load of the old columns, then the store of the new ones. -/
theorem wp_load_put (d : Dev nD) (i : grid0.Coords) (A : S32x128.Idx → F .f32) (row : ℕ) (hrow : row < 32) (g : Fin 128 → F .f32) (j : Fin 8)
    (v : FVec F S16 .f32) (hv : ∀ l, v l = g (colOf j l)) (c : ℕ) (hc : c = 16 * j.val)
    (off : Fin 2 → ℕ) (ho) (hoff : off = ![row, 16 * j.val]) (pay : FVec F S1x16 .f32) (hpay : pay = shapeCast S1x16 v shapeCasts_S16_S1x16)
    {hl} {hst} {hm} {β : Type} (kk : PUnit.{1} → Prog (TpuEff nD τ sig (Elt F) Λ₀ (.scVector (cV i) (jV i))) β) (Q : β → sProp 𝕄) :
    (aLoc d i ↦{fullShare} fillTo A row g c) ⊢
      iprop(((aLoc d i ↦{fullShare} fillTo A row g (c + 16)) -∗ wp frame (wpE (defs₀ (F := F)) 𝒱₀ (VT d i) none) Set.univ (kk ⟨⟩) Q)
      -∗ wp frame (wpE (defs₀ (F := F)) 𝒱₀ (VT d i) none) Set.univ
        (.op (.load aV (Rect.unit (s := S32x128) off S1x16.size ho).toLoadRect hl) fun _ =>
          .op (.store aV (Rect.unit (s := S32x128) off S1x16.size ho) pay Finset.univ hst hm) kk) Q) := by
  iintro H HK
  iapply (wp_load 𝒱₀ (VT d i) none Set.univ (m := aV) (f := fillTo A row g c) (S := Finset.univ) (Finset.subset_univ _)) $$ H
  iintro H
  iapply (wp_put d i A row hrow g j v hv c hc off ho hoff pay hpay kk Q) $$ H
  iexact HK

/-- The sixteen lanes the kernel stores are the pooled columns. -/
theorem scaled_val (E : S100000x128.Idx → F .f32) (w : Fin 4 → Fin 50 → BitVec 32) (j : Fin 8) (l : S16.Idx) :
    mulf (vecSum E w 200 j) (broadcast S16 (Named.named κ "inv_len" 0x3BA3D70A#32)) l = poolAt E w (colOf j l) := rfl

end Steps

end Cert.Proof.Lookup
-- ==== Proof.Parts.lean ====
/-
  One trip of the main loop, part by part as it is printed: rows `2t` and `2t + 1`, four slots each, and the sixteen
  columns' stores.
-/
module

public import proofs.«01_k».proof.Proof.Phase

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The guards of the next gathers hold until the last trip. -/
theorem cond_iff : ∀ t : Fin k0_t1_loop.trips, (k0_cond1 t = 1#1 ↔ t.val < 63) ∧ (k0_cond2 t = 1#1 ↔ t.val < 63) ∧ (k0_cond3 t = 1#1 ↔ t.val < 63)
    ∧ (k0_cond4 t = 1#1 ↔ t.val < 63) ∧ (k0_cond5 t = 1#1 ↔ t.val < 63) ∧ (k0_cond6 t = 1#1 ↔ t.val < 63) ∧ (k0_cond7 t = 1#1 ↔ t.val < 63)
    ∧ (k0_cond8 t = 1#1 ↔ t.val < 63) ∧ (k0_cond9 t = 1#1 ↔ t.val % 16 = 15) := by decide +kernel

/-- Where the trip's first row stands in the accumulator. -/
theorem accOff_0 : ∀ t : Fin k0_t1_loop.trips, k0_off38 t 0#32 = ![(2 * t.val) % 32, 0] ∧ k0_off39 t 0#32 = ![(2 * t.val) % 32, 16]
    ∧ k0_off40 t 0#32 = ![(2 * t.val) % 32, 32] ∧ k0_off41 t 0#32 = ![(2 * t.val) % 32, 48] ∧ k0_off42 t 0#32 = ![(2 * t.val) % 32, 64]
    ∧ k0_off43 t 0#32 = ![(2 * t.val) % 32, 80] ∧ k0_off44 t 0#32 = ![(2 * t.val) % 32, 96] ∧ k0_off45 t 0#32 = ![(2 * t.val) % 32, 112] := by decide +kernel

/-- Where the trip's second row stands in the accumulator. -/
theorem accOff_1 : ∀ t : Fin k0_t1_loop.trips, k0_off38 t 1#32 = ![(2 * t.val + 1) % 32, 0] ∧ k0_off39 t 1#32 = ![(2 * t.val + 1) % 32, 16]
    ∧ k0_off40 t 1#32 = ![(2 * t.val + 1) % 32, 32] ∧ k0_off41 t 1#32 = ![(2 * t.val + 1) % 32, 48] ∧ k0_off42 t 1#32 = ![(2 * t.val + 1) % 32, 64]
    ∧ k0_off43 t 1#32 = ![(2 * t.val + 1) % 32, 80] ∧ k0_off44 t 1#32 = ![(2 * t.val + 1) % 32, 96] ∧ k0_off45 t 1#32 = ![(2 * t.val + 1) % 32, 112] := by decide +kernel

/-- The outer loop takes two rows to a trip. -/
theorem trips_64 : k0_t1_loop.trips = 64 := by decide

/-- A trip is one of 64. -/
theorem lt_64 (t : Fin k0_t1_loop.trips) : t.val < 64 := lt_of_lt_of_eq t.isLt trips_64

/-- A slot is gathered into again exactly while there are steps left for it. -/
theorem next_iff (t : Fin k0_t1_loop.trips) (k : ℕ) (hk : k < 8) {C : Prop} (h : C ↔ t.val < 63) : C ↔ 8 * t.val + k + 8 < 512 := by
  have := lt_64 t; rw [h]; omega

/-- The local row of list number `8t + k`. -/
theorem rowNo_trip (t : Fin k0_t1_loop.trips) (k : ℕ) (b : ℕ) (hb : b < 2) (hk : k / 4 = b) (r : Fin 128) (hr : r.val = 2 * t.val + b) :
    r = rowNo (8 * t.val + k) := by
  have := lt_64 t
  apply Fin.ext
  show r.val = ((8 * t.val + k) / 4) % 128
  omega

section Parts

variable [FloatOps F] [Named F]
variable (d : Dev nD) (i : grid0.Coords) (E : S100000x128.Idx → F .f32) (L : S128x4x50.Idx → BitVec 32) (hL : ∀ x, (L x).toNat < 100000)
  (pe pl : Fin 8 → PosShare TreeShare) (O : CellTallies nD τ sig (HIx 1)) (W : Waits sig (HIx 1)) (t : Fin k0_t1_loop.trips)

/-- A slot before trip `t` (list number `8t + k`), for the eight slots by name. -/
abbrev At0 (n : ℕ) : sProp 𝕄 := SlotAt d i E L 0 inb_S8x50x128_S1x50x128_0_0_0 cc0_scratch3.sem (pe 0) (pl 0) (n + 0)
/-- The same of slots 1 to 7. -/
abbrev At1 (n : ℕ) : sProp 𝕄 := SlotAt d i E L 1 inb_S8x50x128_S1x50x128_1_0_0 cc0_scratch4.sem (pe 1) (pl 1) (n + 1)
abbrev At2 (n : ℕ) : sProp 𝕄 := SlotAt d i E L 2 inb_S8x50x128_S1x50x128_2_0_0 cc0_scratch5.sem (pe 2) (pl 2) (n + 2)
abbrev At3 (n : ℕ) : sProp 𝕄 := SlotAt d i E L 3 inb_S8x50x128_S1x50x128_3_0_0 cc0_scratch6.sem (pe 3) (pl 3) (n + 3)
abbrev At4 (n : ℕ) : sProp 𝕄 := SlotAt d i E L 4 inb_S8x50x128_S1x50x128_4_0_0 cc0_scratch7.sem (pe 4) (pl 4) (n + 4)
abbrev At5 (n : ℕ) : sProp 𝕄 := SlotAt d i E L 5 inb_S8x50x128_S1x50x128_5_0_0 cc0_scratch8.sem (pe 5) (pl 5) (n + 5)
abbrev At6 (n : ℕ) : sProp 𝕄 := SlotAt d i E L 6 inb_S8x50x128_S1x50x128_6_0_0 cc0_scratch9.sem (pe 6) (pl 6) (n + 6)
abbrev At7 (n : ℕ) : sProp 𝕄 := SlotAt d i E L 7 inb_S8x50x128_S1x50x128_7_0_0 cc0_scratch10.sem (pe 7) (pl 7) (n + 7)

include hL in
set_option maxHeartbeats 1000000 in
/-- Part 1 of a trip: the first row's quarters in slots 0 and 1 are summed and the slots gathered into again. -/
theorem wp_part1 (r : Fin 128) (hr : r.val = 2 * t.val) :
    iprop(Transfers.MayWaits (VT d i) (default : HIx 1) O ∗ At0 d i E L pe pl (8 * t.val) ∗ At1 d i E L pe pl (8 * t.val) ∗ Owe d i O W) ⊢
      wp frame (wpE (defs₀ (F := F)) 𝒱₀ (VT d i) none) Set.univ
        (k0_part1 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          (k0_pay1 (F := F)) (k0_pay2 (F := F)) (k0_pay3 (F := F)) (k0_pay4 (F := F)) (k0_pay5 (F := F)) (k0_pay6 (F := F)) (k0_pay7 (F := F)) (k0_pay8 (F := F)) 0#32 1#32 t)
        fun z => iprop(⌜∃ a b, z = ⟨a, b, vecSum E (wordsOf L r) 100 0, vecSum E (wordsOf L r) 100 1, vecSum E (wordsOf L r) 100 2, vecSum E (wordsOf L r) 100 3,
              vecSum E (wordsOf L r) 100 4, vecSum E (wordsOf L r) 100 5, vecSum E (wordsOf L r) 100 6, vecSum E (wordsOf L r) 100 7⟩⌝
          ∗ At0 d i E L pe pl (8 * t.val + 8) ∗ At1 d i E L pe pl (8 * t.val + 8) ∗ Owe d i O W) := by
  have ht := lt_64 t
  rw [k0_part1_eq_skeleton]; unfold k0_part1_skel
  iintro ⟨#Hmw, H0, H1, HO⟩
  iapply (wp_phase d i E L 0 inb_S8x50x128_S1x50x128_0_0_0 cc0_scratch3.sem (pe 0) (pl 0) (8 * t.val + 0) (by omega) O W r 0
    (rowNo_trip t 0 0 (by omega) rfl r hr) (Fin.ext (show 0 = (8 * t.val + 0) % 4 by omega)) 0 rfl
    k0_off2 k0_off3 k0_off4 k0_off5 k0_off6 k0_off7 k0_off8 k0_off9 k0_off2_inb k0_off3_inb k0_off4_inb k0_off5_inb k0_off6_inb k0_off7_inb k0_off8_inb k0_off9_inb
    k0_off2_eq k0_off3_eq k0_off4_eq k0_off5_eq k0_off6_eq k0_off7_eq k0_off8_eq k0_off9_eq _ rfl _ rfl) $$ [H0 HO]
  · isplitr; · iexact Hmw
    isplitl [H0]; · iexact H0
    iexact HO
  iintro ⟨H0, HO⟩
  iapply (wp_reissue d i E L hL 0 inb_S8x50x128_S1x50x128_0_0_0 cc0_scratch3.sem (pe 0) (pl 0) (8 * t.val + 8 + 0) (k0_cond1 t = 1#1)
    (next_iff t 0 (by omega) (cond_iff t).1) (k0_off10 t) (k0_off10_inb t) _ _ (k0_off10_eq t) (by omega) (by omega)) $$ H0
  iintro H0
  iapply (wp_phase d i E L 1 inb_S8x50x128_S1x50x128_1_0_0 cc0_scratch4.sem (pe 1) (pl 1) (8 * t.val + 1) (by omega) O W r 1
    (rowNo_trip t 1 0 (by omega) rfl r hr) (Fin.ext (show 1 = (8 * t.val + 1) % 4 by omega)) 50 rfl
    k0_off11 k0_off12 k0_off13 k0_off14 k0_off15 k0_off16 k0_off17 k0_off18 k0_off11_inb k0_off12_inb k0_off13_inb k0_off14_inb k0_off15_inb k0_off16_inb k0_off17_inb k0_off18_inb
    k0_off11_eq k0_off12_eq k0_off13_eq k0_off14_eq k0_off15_eq k0_off16_eq k0_off17_eq k0_off18_eq _ rfl _ rfl) $$ [H1 HO]
  · isplitr; · iexact Hmw
    isplitl [H1]; · iexact H1
    iexact HO
  iintro ⟨H1, HO⟩
  iapply (wp_reissue d i E L hL 1 inb_S8x50x128_S1x50x128_1_0_0 cc0_scratch4.sem (pe 1) (pl 1) (8 * t.val + 8 + 1) (k0_cond2 t = 1#1)
    (next_iff t 1 (by omega) (cond_iff t).2.1) (k0_off19 t) (k0_off19_inb t) _ _ (k0_off19_eq t) (by omega) (by omega)) $$ H1
  iintro H1
  iapply (le_wp_ret _ _)
  isplitr; · ipureintro; exact ⟨_, _, rfl⟩
  isplitl [H0]; · iexact H0
  isplitl [H1]; · iexact H1
  iexact HO

include hL in
set_option maxHeartbeats 1000000 in
/-- Part 2: the first row's other quarters, and its first 16 columns written to the accumulator. -/
theorem wp_part2 (A : S32x128.Idx → F .f32) (a b : BitVec 32) (r : Fin 128) (hr : r.val = 2 * t.val) :
    iprop(Transfers.MayWaits (VT d i) (default : HIx 1) O ∗ At2 d i E L pe pl (8 * t.val) ∗ At3 d i E L pe pl (8 * t.val) ∗ (aLoc d i ↦{fullShare} fillTo A ((2 * t.val) % 32) (fun c => poolAt E (wordsOf L r) c) 0) ∗ Owe d i O W) ⊢
      wp frame (wpE (defs₀ (F := F)) 𝒱₀ (VT d i) none) Set.univ
        (k0_part2 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          t a b (vecSum E (wordsOf L r) 100 0) (vecSum E (wordsOf L r) 100 1) (vecSum E (wordsOf L r) 100 2) (vecSum E (wordsOf L r) 100 3) (vecSum E (wordsOf L r) 100 4) (vecSum E (wordsOf L r) 100 5) (vecSum E (wordsOf L r) 100 6) (vecSum E (wordsOf L r) 100 7))
        fun z => iprop(⌜∃ c, z = ⟨vecSum E (wordsOf L r) 200 1, vecSum E (wordsOf L r) 200 2, vecSum E (wordsOf L r) 200 3, vecSum E (wordsOf L r) 200 4, vecSum E (wordsOf L r) 200 5, vecSum E (wordsOf L r) 200 6, vecSum E (wordsOf L r) 200 7, c⟩⌝ ∗ At2 d i E L pe pl (8 * t.val + 8) ∗ At3 d i E L pe pl (8 * t.val + 8) ∗ (aLoc d i ↦{fullShare} fillTo A ((2 * t.val) % 32) (fun c => poolAt E (wordsOf L r) c) 16) ∗ Owe d i O W) := by
  have ht := lt_64 t
  rw [k0_part2_eq_skeleton]; unfold k0_part2_skel
  iintro ⟨#Hmw, H2, H3, HA, HO⟩
  iapply (wp_phase d i E L 2 inb_S8x50x128_S1x50x128_2_0_0 cc0_scratch5.sem (pe 2) (pl 2) (8 * t.val + 2) (by omega) O W r 2
    (rowNo_trip t 2 0 (by omega) rfl r hr) (Fin.ext (show 2 = (8 * t.val + 2) % 4 by omega)) 100 rfl
    k0_off20 k0_off21 k0_off22 k0_off23 k0_off24 k0_off25 k0_off26 k0_off27 k0_off20_inb k0_off21_inb k0_off22_inb k0_off23_inb k0_off24_inb k0_off25_inb k0_off26_inb k0_off27_inb
    k0_off20_eq k0_off21_eq k0_off22_eq k0_off23_eq k0_off24_eq k0_off25_eq k0_off26_eq k0_off27_eq _ rfl _ rfl) $$ [H2 HO]
  · isplitr; · iexact Hmw
    isplitl [H2]; · iexact H2
    iexact HO
  iintro ⟨H2, HO⟩
  iapply (wp_reissue d i E L hL 2 inb_S8x50x128_S1x50x128_2_0_0 cc0_scratch5.sem (pe 2) (pl 2) (8 * t.val + 8 + 2) (k0_cond3 t = 1#1)
    (next_iff t 2 (by omega) (cond_iff t).2.2.1) (k0_off28 t) (k0_off28_inb t) _ _ (k0_off28_eq t) (by omega) (by omega)) $$ H2
  iintro H2
  iapply (wp_phase d i E L 3 inb_S8x50x128_S1x50x128_3_0_0 cc0_scratch6.sem (pe 3) (pl 3) (8 * t.val + 3) (by omega) O W r 3
    (rowNo_trip t 3 0 (by omega) rfl r hr) (Fin.ext (show 3 = (8 * t.val + 3) % 4 by omega)) 150 rfl
    k0_off29 k0_off30 k0_off31 k0_off32 k0_off33 k0_off34 k0_off35 k0_off36 k0_off29_inb k0_off30_inb k0_off31_inb k0_off32_inb k0_off33_inb k0_off34_inb k0_off35_inb k0_off36_inb
    k0_off29_eq k0_off30_eq k0_off31_eq k0_off32_eq k0_off33_eq k0_off34_eq k0_off35_eq k0_off36_eq _ rfl _ rfl) $$ [H3 HO]
  · isplitr; · iexact Hmw
    isplitl [H3]; · iexact H3
    iexact HO
  iintro ⟨H3, HO⟩
  iapply (wp_reissue d i E L hL 3 inb_S8x50x128_S1x50x128_3_0_0 cc0_scratch6.sem (pe 3) (pl 3) (8 * t.val + 8 + 3) (k0_cond4 t = 1#1)
    (next_iff t 3 (by omega) (cond_iff t).2.2.2.1) (k0_off37 t) (k0_off37_inb t) _ _ (k0_off37_eq t) (by omega) (by omega)) $$ H3
  iintro H3
  iapply (wp_load_put d i A ((2 * t.val) % 32) (by omega) _ 0 _ (scaled_val E (wordsOf L r) 0) 0 rfl _ _ (accOff_0 t).1 _ rfl) $$ HA
  iintro HA
  iapply (le_wp_ret _ _)
  isplitr; · ipureintro; exact ⟨_, rfl⟩
  isplitl [H2]; · iexact H2
  isplitl [H3]; · iexact H3
  isplitl [HA]; · iexact HA
  iexact HO

set_option maxHeartbeats 1000000 in
/-- Part 3: the first row's further columns. -/
theorem wp_part3 (A : S32x128.Idx → F .f32) (a : BitVec 32) (r : Fin 128) :
    (aLoc d i ↦{fullShare} fillTo A ((2 * t.val) % 32) (fun c => poolAt E (wordsOf L r) c) 16 : sProp 𝕄) ⊢
      wp frame (wpE (defs₀ (F := F)) 𝒱₀ (VT d i) none) Set.univ
        (k0_part3 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          t (vecSum E (wordsOf L r) 200 1) (vecSum E (wordsOf L r) 200 2) (vecSum E (wordsOf L r) 200 3) (vecSum E (wordsOf L r) 200 4) (vecSum E (wordsOf L r) 200 5) (vecSum E (wordsOf L r) 200 6) (vecSum E (wordsOf L r) 200 7) a)
        fun z => iprop(⌜∃ b, z = ⟨k0_pay49 (vecSum E (wordsOf L r) 200 7), b⟩⌝ ∗ (aLoc d i ↦{fullShare} fillTo A ((2 * t.val) % 32) (fun c => poolAt E (wordsOf L r) c) 112)) := by
  have ht := lt_64 t
  rw [k0_part3_eq_skeleton]; unfold k0_part3_skel
  iintro HA
  iapply (wp_load_put d i A ((2 * t.val) % 32) (by omega) _ 1 _ (scaled_val E (wordsOf L r) 1) 16 rfl _ _ (accOff_0 t).2.1 _ rfl) $$ HA
  iintro HA
  iapply (wp_load_put d i A ((2 * t.val) % 32) (by omega) _ 2 _ (scaled_val E (wordsOf L r) 2) 32 rfl _ _ (accOff_0 t).2.2.1 _ rfl) $$ HA
  iintro HA
  iapply (wp_load_put d i A ((2 * t.val) % 32) (by omega) _ 3 _ (scaled_val E (wordsOf L r) 3) 48 rfl _ _ (accOff_0 t).2.2.2.1 _ rfl) $$ HA
  iintro HA
  iapply (wp_load_put d i A ((2 * t.val) % 32) (by omega) _ 4 _ (scaled_val E (wordsOf L r) 4) 64 rfl _ _ (accOff_0 t).2.2.2.2.1 _ rfl) $$ HA
  iintro HA
  iapply (wp_load_put d i A ((2 * t.val) % 32) (by omega) _ 5 _ (scaled_val E (wordsOf L r) 5) 80 rfl _ _ (accOff_0 t).2.2.2.2.2.1 _ rfl) $$ HA
  iintro HA
  iapply (wp_load_put d i A ((2 * t.val) % 32) (by omega) _ 6 _ (scaled_val E (wordsOf L r) 6) 96 rfl _ _ (accOff_0 t).2.2.2.2.2.2.1 _ rfl) $$ HA
  iintro HA
  iapply (wp_load 𝒱₀ (VT d i) none Set.univ (m := aV) (S := Finset.univ) (Finset.subset_univ _)) $$ HA
  iintro HA
  iapply (le_wp_ret _ _)
  isplitr; · ipureintro; exact ⟨_, rfl⟩
  iexact HA

include hL in
set_option maxHeartbeats 1000000 in
/-- Part 4: the first row's last columns, and the second row's quarters in slots 4 and 5. -/
theorem wp_part4 (A : S32x128.Idx → F .f32) (a : BitVec 32) (b : Vec F S1x16 .f32) (r0 r : Fin 128) (hr : r.val = 2 * t.val + 1) :
    iprop(Transfers.MayWaits (VT d i) (default : HIx 1) O ∗ At4 d i E L pe pl (8 * t.val) ∗ At5 d i E L pe pl (8 * t.val) ∗ (aLoc d i ↦{fullShare} fillTo A ((2 * t.val) % 32) (fun c => poolAt E (wordsOf L r0) c) 112) ∗ Owe d i O W) ⊢
      wp frame (wpE (defs₀ (F := F)) 𝒱₀ (VT d i) none) Set.univ
        (k0_part4 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          (k0_pay1 (F := F)) (k0_pay2 (F := F)) (k0_pay3 (F := F)) (k0_pay4 (F := F)) (k0_pay5 (F := F)) (k0_pay6 (F := F)) (k0_pay7 (F := F)) (k0_pay8 (F := F)) t a (k0_pay49 (vecSum E (wordsOf L r0) 200 7)) b)
        fun z => iprop(⌜∃ c, z = ⟨c, vecSum E (wordsOf L r) 100 0, vecSum E (wordsOf L r) 100 1, vecSum E (wordsOf L r) 100 2, vecSum E (wordsOf L r) 100 3, vecSum E (wordsOf L r) 100 4, vecSum E (wordsOf L r) 100 5, vecSum E (wordsOf L r) 100 6, vecSum E (wordsOf L r) 100 7⟩⌝ ∗ At4 d i E L pe pl (8 * t.val + 8) ∗ At5 d i E L pe pl (8 * t.val + 8) ∗ (aLoc d i ↦{fullShare} fillTo A ((2 * t.val) % 32) (fun c => poolAt E (wordsOf L r0) c) 128) ∗ Owe d i O W) := by
  have ht := lt_64 t
  rw [k0_part4_eq_skeleton]; unfold k0_part4_skel
  iintro ⟨#Hmw, H4, H5, HA, HO⟩
  iapply (wp_put d i A ((2 * t.val) % 32) (by omega) _ 7 _ (scaled_val E (wordsOf L r0) 7) 112 rfl _ _ (accOff_0 t).2.2.2.2.2.2.2 _ rfl) $$ HA
  iintro HA
  iapply (wp_phase d i E L 4 inb_S8x50x128_S1x50x128_4_0_0 cc0_scratch7.sem (pe 4) (pl 4) (8 * t.val + 4) (by omega) O W r 0
    (rowNo_trip t 4 1 (by omega) rfl r hr) (Fin.ext (show 0 = (8 * t.val + 4) % 4 by omega)) 0 rfl
    k0_off46 k0_off47 k0_off48 k0_off49 k0_off50 k0_off51 k0_off52 k0_off53 k0_off46_inb k0_off47_inb k0_off48_inb k0_off49_inb k0_off50_inb k0_off51_inb k0_off52_inb k0_off53_inb
    k0_off46_eq k0_off47_eq k0_off48_eq k0_off49_eq k0_off50_eq k0_off51_eq k0_off52_eq k0_off53_eq _ rfl _ rfl) $$ [H4 HO]
  · isplitr; · iexact Hmw
    isplitl [H4]; · iexact H4
    iexact HO
  iintro ⟨H4, HO⟩
  iapply (wp_reissue d i E L hL 4 inb_S8x50x128_S1x50x128_4_0_0 cc0_scratch7.sem (pe 4) (pl 4) (8 * t.val + 8 + 4) (k0_cond5 t = 1#1)
    (next_iff t 4 (by omega) (cond_iff t).2.2.2.2.1) (k0_off54 t) (k0_off54_inb t) _ _ (k0_off54_eq t) (by omega) (by omega)) $$ H4
  iintro H4
  iapply (wp_phase d i E L 5 inb_S8x50x128_S1x50x128_5_0_0 cc0_scratch8.sem (pe 5) (pl 5) (8 * t.val + 5) (by omega) O W r 1
    (rowNo_trip t 5 1 (by omega) rfl r hr) (Fin.ext (show 1 = (8 * t.val + 5) % 4 by omega)) 50 rfl
    k0_off55 k0_off56 k0_off57 k0_off58 k0_off59 k0_off60 k0_off61 k0_off62 k0_off55_inb k0_off56_inb k0_off57_inb k0_off58_inb k0_off59_inb k0_off60_inb k0_off61_inb k0_off62_inb
    k0_off55_eq k0_off56_eq k0_off57_eq k0_off58_eq k0_off59_eq k0_off60_eq k0_off61_eq k0_off62_eq _ rfl _ rfl) $$ [H5 HO]
  · isplitr; · iexact Hmw
    isplitl [H5]; · iexact H5
    iexact HO
  iintro ⟨H5, HO⟩
  iapply (wp_reissue d i E L hL 5 inb_S8x50x128_S1x50x128_5_0_0 cc0_scratch8.sem (pe 5) (pl 5) (8 * t.val + 8 + 5) (k0_cond6 t = 1#1)
    (next_iff t 5 (by omega) (cond_iff t).2.2.2.2.2.1) (k0_off63 t) (k0_off63_inb t) _ _ (k0_off63_eq t) (by omega) (by omega)) $$ H5
  iintro H5
  iapply (le_wp_ret _ _)
  isplitr; · ipureintro; exact ⟨_, rfl⟩
  isplitl [H4]; · iexact H4
  isplitl [H5]; · iexact H5
  isplitl [HA]; · iexact HA
  iexact HO

include hL in
set_option maxHeartbeats 1000000 in
/-- Part 5: the second row's other quarters. -/
theorem wp_part5 (A : S32x128.Idx → F .f32) (a b : BitVec 32) (r : Fin 128) (hr : r.val = 2 * t.val + 1) :
    iprop(Transfers.MayWaits (VT d i) (default : HIx 1) O ∗ At6 d i E L pe pl (8 * t.val) ∗ At7 d i E L pe pl (8 * t.val) ∗ (aLoc d i ↦{fullShare} A) ∗ Owe d i O W) ⊢
      wp frame (wpE (defs₀ (F := F)) 𝒱₀ (VT d i) none) Set.univ
        (k0_part5 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          t a b (vecSum E (wordsOf L r) 100 0) (vecSum E (wordsOf L r) 100 1) (vecSum E (wordsOf L r) 100 2) (vecSum E (wordsOf L r) 100 3) (vecSum E (wordsOf L r) 100 4) (vecSum E (wordsOf L r) 100 5) (vecSum E (wordsOf L r) 100 6) (vecSum E (wordsOf L r) 100 7))
        fun z => iprop(⌜∃ c, z = ⟨vecSum E (wordsOf L r) 200 1, vecSum E (wordsOf L r) 200 2, vecSum E (wordsOf L r) 200 3, vecSum E (wordsOf L r) 200 4, vecSum E (wordsOf L r) 200 5, vecSum E (wordsOf L r) 200 6, vecSum E (wordsOf L r) 200 7, c, k0_pay83 (vecSum E (wordsOf L r) 200 0)⟩⌝ ∗ At6 d i E L pe pl (8 * t.val + 8) ∗ At7 d i E L pe pl (8 * t.val + 8) ∗ (aLoc d i ↦{fullShare} A) ∗ Owe d i O W) := by
  have ht := lt_64 t
  rw [k0_part5_eq_skeleton]; unfold k0_part5_skel
  iintro ⟨#Hmw, H6, H7, HA, HO⟩
  iapply (wp_phase d i E L 6 inb_S8x50x128_S1x50x128_6_0_0 cc0_scratch9.sem (pe 6) (pl 6) (8 * t.val + 6) (by omega) O W r 2
    (rowNo_trip t 6 1 (by omega) rfl r hr) (Fin.ext (show 2 = (8 * t.val + 6) % 4 by omega)) 100 rfl
    k0_off64 k0_off65 k0_off66 k0_off67 k0_off68 k0_off69 k0_off70 k0_off71 k0_off64_inb k0_off65_inb k0_off66_inb k0_off67_inb k0_off68_inb k0_off69_inb k0_off70_inb k0_off71_inb
    k0_off64_eq k0_off65_eq k0_off66_eq k0_off67_eq k0_off68_eq k0_off69_eq k0_off70_eq k0_off71_eq _ rfl _ rfl) $$ [H6 HO]
  · isplitr; · iexact Hmw
    isplitl [H6]; · iexact H6
    iexact HO
  iintro ⟨H6, HO⟩
  iapply (wp_reissue d i E L hL 6 inb_S8x50x128_S1x50x128_6_0_0 cc0_scratch9.sem (pe 6) (pl 6) (8 * t.val + 8 + 6) (k0_cond7 t = 1#1)
    (next_iff t 6 (by omega) (cond_iff t).2.2.2.2.2.2.1) (k0_off72 t) (k0_off72_inb t) _ _ (k0_off72_eq t) (by omega) (by omega)) $$ H6
  iintro H6
  iapply (wp_phase d i E L 7 inb_S8x50x128_S1x50x128_7_0_0 cc0_scratch10.sem (pe 7) (pl 7) (8 * t.val + 7) (by omega) O W r 3
    (rowNo_trip t 7 1 (by omega) rfl r hr) (Fin.ext (show 3 = (8 * t.val + 7) % 4 by omega)) 150 rfl
    k0_off73 k0_off74 k0_off75 k0_off76 k0_off77 k0_off78 k0_off79 k0_off80 k0_off73_inb k0_off74_inb k0_off75_inb k0_off76_inb k0_off77_inb k0_off78_inb k0_off79_inb k0_off80_inb
    k0_off73_eq k0_off74_eq k0_off75_eq k0_off76_eq k0_off77_eq k0_off78_eq k0_off79_eq k0_off80_eq _ rfl _ rfl) $$ [H7 HO]
  · isplitr; · iexact Hmw
    isplitl [H7]; · iexact H7
    iexact HO
  iintro ⟨H7, HO⟩
  iapply (wp_reissue d i E L hL 7 inb_S8x50x128_S1x50x128_7_0_0 cc0_scratch10.sem (pe 7) (pl 7) (8 * t.val + 8 + 7) (k0_cond8 t = 1#1)
    (next_iff t 7 (by omega) (cond_iff t).2.2.2.2.2.2.2.1) (k0_off81 t) (k0_off81_inb t) _ _ (k0_off81_eq t) (by omega) (by omega)) $$ H7
  iintro H7
  iapply (wp_load 𝒱₀ (VT d i) none Set.univ (m := aV) (S := Finset.univ) (Finset.subset_univ _)) $$ HA
  iintro HA
  iapply (le_wp_ret _ _)
  isplitr; · ipureintro; exact ⟨_, rfl⟩
  isplitl [H6]; · iexact H6
  isplitl [H7]; · iexact H7
  isplitl [HA]; · iexact HA
  iexact HO

set_option maxHeartbeats 1000000 in
/-- Part 6: the second row's columns but the last 16. -/
theorem wp_part6 (A : S32x128.Idx → F .f32) (a : BitVec 32) (r : Fin 128) :
    (aLoc d i ↦{fullShare} fillTo A ((2 * t.val + 1) % 32) (fun c => poolAt E (wordsOf L r) c) 0 : sProp 𝕄) ⊢
      wp frame (wpE (defs₀ (F := F)) 𝒱₀ (VT d i) none) Set.univ
        (k0_part6 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1
          t (vecSum E (wordsOf L r) 200 1) (vecSum E (wordsOf L r) 200 2) (vecSum E (wordsOf L r) 200 3) (vecSum E (wordsOf L r) 200 4) (vecSum E (wordsOf L r) 200 5) (vecSum E (wordsOf L r) 200 6) (vecSum E (wordsOf L r) 200 7) a (k0_pay83 (vecSum E (wordsOf L r) 200 0)))
        fun z => iprop(⌜z = k0_pay91 (vecSum E (wordsOf L r) 200 7)⌝ ∗ (aLoc d i ↦{fullShare} fillTo A ((2 * t.val + 1) % 32) (fun c => poolAt E (wordsOf L r) c) 112)) := by
  have ht := lt_64 t
  rw [k0_part6_eq_skeleton]; unfold k0_part6_skel
  iintro HA
  iapply (wp_put d i A ((2 * t.val + 1) % 32) (by omega) _ 0 _ (scaled_val E (wordsOf L r) 0) 0 rfl _ _ (accOff_1 t).1 _ rfl) $$ HA
  iintro HA
  iapply (wp_load_put d i A ((2 * t.val + 1) % 32) (by omega) _ 1 _ (scaled_val E (wordsOf L r) 1) 16 rfl _ _ (accOff_1 t).2.1 _ rfl) $$ HA
  iintro HA
  iapply (wp_load_put d i A ((2 * t.val + 1) % 32) (by omega) _ 2 _ (scaled_val E (wordsOf L r) 2) 32 rfl _ _ (accOff_1 t).2.2.1 _ rfl) $$ HA
  iintro HA
  iapply (wp_load_put d i A ((2 * t.val + 1) % 32) (by omega) _ 3 _ (scaled_val E (wordsOf L r) 3) 48 rfl _ _ (accOff_1 t).2.2.2.1 _ rfl) $$ HA
  iintro HA
  iapply (wp_load_put d i A ((2 * t.val + 1) % 32) (by omega) _ 4 _ (scaled_val E (wordsOf L r) 4) 64 rfl _ _ (accOff_1 t).2.2.2.2.1 _ rfl) $$ HA
  iintro HA
  iapply (wp_load_put d i A ((2 * t.val + 1) % 32) (by omega) _ 5 _ (scaled_val E (wordsOf L r) 5) 80 rfl _ _ (accOff_1 t).2.2.2.2.2.1 _ rfl) $$ HA
  iintro HA
  iapply (wp_load_put d i A ((2 * t.val + 1) % 32) (by omega) _ 6 _ (scaled_val E (wordsOf L r) 6) 96 rfl _ _ (accOff_1 t).2.2.2.2.2.2.1 _ rfl) $$ HA
  iintro HA
  iapply (le_wp_ret _ _)
  isplitr; · ipureintro; exact rfl
  iexact HA

end Parts

end Cert.Proof.Lookup
-- ==== Proof.Out.lean ====
/-
  The write-out of 32 pooled rows, and what a tile has written of the result after some trips of the main loop.
-/
module

public import proofs.«01_k».proof.Proof.Parts

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tile's rows of the result, as a set of its elements. -/
def oSet (i : grid0.Coords) : Finset S4096x128.Idx := Finset.univ.filter fun x => base i ≤ (x 0).val ∧ (x 0).val < base i + 128

/-- A tile's pooled rows are 128 in sequence. -/
theorem mem_oSet (i : grid0.Coords) (x : S4096x128.Idx) : x ∈ oSet i ↔ base i ≤ (x 0).val ∧ (x 0).val < base i + 128 := by
  unfold oSet; rw [Finset.mem_filter]; exact and_iff_right (Finset.mem_univ _)

/-- The lists of the tile's own rows. -/
def listsOf (i : grid0.Coords) (X : S4096x4x50.Idx → BitVec 32) : S128x4x50.Idx → BitVec 32 :=
  fun x => X (ix3 (⟨base i + (x 0).val, by have h := base_le i; have h0 : (x 0).val < 128 := (x 0).isLt; omega⟩ : Fin 4096) (x 1) (x 2))

/-- A tile's words are below the table's height if all are. -/
theorem listsOf_lt (i : grid0.Coords) (X : S4096x4x50.Idx → BitVec 32) (hX : ∀ x, (X x).toNat < 100000) : ∀ x, (listsOf i X x).toNat < 100000 :=
  fun _ => hX _

/-- Where a write-out begins: 32 rows further each time. -/
theorem off82_eq : ∀ (i : grid0.Coords) (t : Fin k0_t1_loop.trips), t.val % 16 = 15 → k0_off82 i t = ![256 * (i 1).val + 128 * (i 0).val + (2 * t.val - 30), 0] := by
  decide +kernel

section Out

variable [FloatOps F] [Named F]

/-- The result's rows with the rows below `n` pooled, the rest as they were. -/
def outAt (E : S100000x128.Idx → F .f32) (X : S4096x4x50.Idx → BitVec 32) (f0 : S4096x128.Idx → F .f32) (n : ℕ) : S4096x128.Idx → F .f32 :=
  fun x => if (x 0).val < n then pooled E X x else f0 x

/-- The scratch's rows that are not yet written out hold their pooled values: local rows `lo ≤ r < hi`. -/
def AccOK (E : S100000x128.Idx → F .f32) (L : S128x4x50.Idx → BitVec 32) (A : S32x128.Idx → F .f32) (lo hi : ℕ) : Prop :=
  ∀ r : Fin 128, lo ≤ r.val → r.val < hi → ∀ (a : Fin 32), a.val = r.val % 32 → ∀ c : Fin 128, A (ix2 a c) = poolAt E (wordsOf L r) c

/-- What a write-out leaves: 32 more pooled rows. -/
theorem out_val (E : S100000x128.Idx → F .f32) (X : S4096x4x50.Idx → BitVec 32) (i : grid0.Coords) (f0 : S4096x128.Idx → F .f32) (A : S32x128.Idx → F .f32) (m : ℕ) (hm : m < 4)
    (hA : AccOK E (listsOf i X) A (32 * m) (32 * m + 32)) (off : Fin 2 → ℕ) (ho) (hoff : off = ![base i + 32 * m, 0])
    (x : S4096x128.Idx) :
    ((oV).slice (Rect.unit (s := S4096x128) off S32x128.size ho) (fun _ => rfl)).view.write (Elt F) (outAt E X f0 (base i + 32 * m)) A Finset.univ x
      = outAt E X f0 (base i + 32 * (m + 1)) x := by
  subst hoff
  have hb := base_le i
  by_cases hx : base i + 32 * m ≤ (x 0).val ∧ (x 0).val < base i + 32 * m + 32
  · let a : Fin 32 := ⟨(x 0).val - (base i + 32 * m), by omega⟩
    have e : x = ((oV).slice (Rect.unit (s := S4096x128) ![base i + 32 * m, 0] S32x128.size ho) (fun _ => rfl)).view.emb (ix2 a (x 1)) := by
      funext b
      match b with
      | ⟨0, _⟩ => exact Fin.ext (show (x 0).val = base i + 32 * m + 1 * ((x 0).val - (base i + 32 * m)) by omega)
      | ⟨1, _⟩ => exact Fin.ext (show (x 1).val = 0 + 1 * (x 1).val by omega)
    let r : Fin 128 := ⟨(x 0).val - base i, by omega⟩
    unfold outAt
    rw [if_pos (by omega)]
    conv_lhs => rw [e]
    rw [View.write_emb_of_mem _ _ (Finset.mem_univ _), cast_eq,
      hA r (show 32 * m ≤ (x 0).val - base i by omega) (show (x 0).val - base i < 32 * m + 32 by omega) a
        (show (x 0).val - (base i + 32 * m) = ((x 0).val - base i) % 32 by omega) (x 1)]
    have er : (⟨base i + r.val, by show base i + ((x 0).val - base i) < 4096; omega⟩ : Fin 4096) = x 0 :=
      Fin.ext (show base i + ((x 0).val - base i) = (x 0).val by omega)
    unfold pooled
    congr 1
    funext q e
    show X (ix3 (⟨base i + r.val, _⟩ : Fin 4096) q e) = X (ix3 (x 0) q e)
    rw [er]
  · rw [View.write_of_not_mem]
    · unfold outAt
      by_cases h1 : (x 0).val < base i + 32 * m
      · rw [if_pos h1, if_pos (by omega)]
      · rw [if_neg h1, if_neg (by omega)]
    · intro hmem
      apply hx
      obtain ⟨y, -, hy⟩ := Finset.mem_map.mp hmem
      have h0 : (x 0).val = base i + 32 * m + 1 * (y 0).val := by rw [← hy]; rfl
      have b0 : (y 0).val < 32 := (y 0).isLt
      omega

/-- A write-out stays in the tile's rows. -/
theorem out_subset (i : grid0.Coords) (m : ℕ) (hm : m < 4) (off : Fin 2 → ℕ) (ho) (hoff : off = ![base i + 32 * m, 0]) :
    ((oV).slice (Rect.unit (s := S4096x128) off S32x128.size ho) (fun _ => rfl)).view.set ⊆ oSet i := by
  subst hoff
  intro x hmem
  obtain ⟨y, -, hy⟩ := Finset.mem_map.mp hmem
  have h0 : (x 0).val = base i + 32 * m + 1 * (y 0).val := by rw [← hy]; rfl
  have b0 : (y 0).val < 32 := (y 0).isLt
  rw [mem_oSet]; omega

/-- The write-out at the end of a trip: at every sixteenth trip the scratch goes to the result's rows. -/
theorem wp_out (d : Dev nD) (i : grid0.Coords) (E : S100000x128.Idx → F .f32) (X : S4096x4x50.Idx → BitVec 32) (f0 : S4096x128.Idx → F .f32)
    (A : S32x128.Idx → F .f32) (O : CellTallies nD τ sig (HIx 1)) (W : Waits sig (HIx 1)) (t : Fin k0_t1_loop.trips)
    (hA : AccOK E (listsOf i X) A (32 * (t.val / 16)) (2 * t.val + 2))
    {β : Type} (kk : PUnit.{1} → Prog (TpuEff nD τ sig (Elt F) Λ₀ (.scVector (cV i) (jV i))) β) (Q : β → sProp 𝕄) :
    iprop(Transfers.MayWaits (VT d i) (default : HIx 1) O ∗ (aLoc d i ↦{fullShare} A) ∗ (oLoc d ↦[oSet i]{fullShare} outAt E X f0 (base i + 32 * (t.val / 16)))
        ∗ semVal (VT d i, SemLoc.dma cc0_scoped1.sem) 0 ∗ Owe d i O W) ⊢
      iprop((iprop((aLoc d i ↦{fullShare} A) ∗ (oLoc d ↦[oSet i]{fullShare} outAt E X f0 (base i + 32 * ((t.val + 1) / 16)))
        ∗ semVal (VT d i, SemLoc.dma cc0_scoped1.sem) 0 ∗ Owe d i O W) -∗ wp frame (wpE (defs₀ (F := F)) 𝒱₀ (VT d i) none) Set.univ (kk ⟨⟩) Q)
      -∗ wp frame (wpE (defs₀ (F := F)) 𝒱₀ (VT d i) none) Set.univ
        (if hc : k0_cond9 t = 1#1 then
          .op (.enqueueDma aV (.here ((oV).slice (Rect.unit (s := S4096x128) (k0_off82 i t) S32x128.size (k0_off82_inb i t hc)) (fun _ => rfl)))
            (.dma cc0_scoped1.sem) (Memref.isWhole_whole _).wordExact (View.wordExact_bits rfl) ⟨Or.inl rfl, trivial⟩) fun _ =>
          .op (.waitDma2 cc0_scoped1.sem aV ((oV).slice (Rect.unit (s := S4096x128) (k0_off82 i t) S32x128.size (k0_off82_inb i t hc)) (fun _ => rfl)) (Memref.isWhole_whole _).wordExact (View.wordExact_bits rfl)) kk
        else kk ⟨⟩) Q) := by
  have ht := lt_64 t
  have hci : k0_cond9 t = 1#1 ↔ t.val % 16 = 15 := (cond_iff t).2.2.2.2.2.2.2.2
  iintro ⟨Hmw, HA, Ho, Hsem, HO⟩ HK
  by_cases hc : k0_cond9 t = 1#1
  · rw [dif_pos hc]
    have h15 := hci.mp hc
    have hoff : k0_off82 i t = ![base i + 32 * (t.val / 16), 0] := by
      rw [off82_eq i t h15]; unfold base
      rw [show 2 * t.val - 30 = 32 * (t.val / 16) by omega]
    unfold Owe
    icases HO with ⟨%W', %hW, HO⟩
    have hs : (aV).view.set = Finset.univ := View.set_whole _
    iapply (Transfers.wp_dmaLocal countersEmb 𝒱₀ (VT d i) none (src := aV) (dst := (oV).slice (Rect.unit (s := S4096x128) (k0_off82 i t) S32x128.size (k0_off82_inb i t hc)) (fun _ => rfl))
      (fs := A) (q := fullShare)
      (fd := outAt E X f0 (base i + 32 * (t.val / 16))) (Sd := oSet i) (default : HIx 1) _ rfl (View.amount_pos _ _ (show 0 < S32x128.numel by decide))
      (out_subset i (t.val / 16) (by omega) (k0_off82 i t) (k0_off82_inb i t hc) hoff)) $$ [HA Ho Hsem]
    · isplitl [HA]
      · rw [hs]; iexact HA
      isplitl [Ho]; · iexact Ho
      iexact Hsem
    iintro Hfl
    iapply (Transfers.wp_waitLocalO countersEmb 𝒱₀ (VT d i) none (default : HIx 1) rfl) $$ [Hfl HO Hmw]
    · isplitl [Hfl]; · iexact Hfl
      isplitl [HO]; · iexact HO
      iapply (Transfers.MayWaits.elim (SemLoc.dma cc0_scoped1.sem)) $$ Hmw
    iintro ⟨⟨Ho, HA⟩, Hsem, HO⟩
    iapply HK
    isplitl [HA]
    · rw [hs]; iexact HA
    isplitl [Ho]
    · rw [show (t.val + 1) / 16 = t.val / 16 + 1 by omega]
      iapply (Entails.of_eq (pointsTo_congr (fun x _ => out_val E X i f0 A (t.val / 16) (by omega) (fun r h0 h1 => hA r h0 (by omega))
        (k0_off82 i t) (k0_off82_inb i t hc) hoff x))) $$ Ho
    isplitl [Hsem]; · iexact Hsem
    iexists _
    isplitr
    rotate_left
    · iexact HO
    · ipureintro
      intro p hp
      rcases Finset.mem_insert.mp hp with rfl | hp
      · exact Or.inr rfl
      · exact hW p hp
  · rw [dif_neg hc]
    have h15 : t.val % 16 ≠ 15 := fun h => hc (hci.mpr h)
    iapply HK
    rw [show (t.val + 1) / 16 = t.val / 16 by omega]
    isplitl [HA]; · iexact HA
    isplitl [Ho]; · iexact Ho
    isplitl [Hsem]; · iexact Hsem
    iexact HO

end Out

end Cert.Proof.Lookup
-- ==== Proof.Trip.lean ====
/-
  One whole trip of the main loop.
-/
module

public import proofs.«01_k».proof.Proof.Out

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Trip

variable [FloatOps F] [Named F]

/-- A part with its own statement, then the rest. -/
theorem wp_then (d : Dev nD) (i : grid0.Coords) {α β : Type} {P : sProp 𝕄} {R : α → sProp 𝕄} {p : Prog (TpuEff nD τ sig (Elt F) Λ₀ (.scVector (cV i) (jV i))) α}
    (h : P ⊢ wp frame (wpE (defs₀ (F := F)) 𝒱₀ (VT d i) none) Set.univ p R)
    (k : α → Prog (TpuEff nD τ sig (Elt F) Λ₀ (.scVector (cV i) (jV i))) β) (Q : β → sProp 𝕄) :
    P ⊢ iprop((∀ z, R z -∗ wp frame (wpE (defs₀ (F := F)) 𝒱₀ (VT d i) none) Set.univ (k z) Q)
      -∗ wp frame (wpE (defs₀ (F := F)) 𝒱₀ (VT d i) none) Set.univ (p >>= k) Q) := by
  rw [wp_bind]
  iintro HP HK
  iapply (wp_wand_r frame (wpE (defs₀ (F := F)) 𝒱₀ (VT d i) none) Set.univ)
  isplitl [HP]
  · iapply h; iexact HP
  · iexact HK

/-- Both rows' stores leave the scratch right up to row `2t + 1`. -/
theorem acc_step (E : S100000x128.Idx → F .f32) (L : S128x4x50.Idx → BitVec 32) (A : S32x128.Idx → F .f32) (t : ℕ) (ht : t < 64) (r0 r1 : Fin 128)
    (h0 : r0.val = 2 * t) (h1 : r1.val = 2 * t + 1) (hA : AccOK E L A (32 * (t / 16)) (2 * t)) :
    AccOK E L (fillTo (fillTo A ((2 * t) % 32) (fun c => poolAt E (wordsOf L r0) c) 128) ((2 * t + 1) % 32) (fun c => poolAt E (wordsOf L r1) c) 128)
      (32 * (t / 16)) (2 * t + 2) := by
  intro r hlo hhi a ha c
  unfold fillTo
  have e0 : ((ix2 a c : S32x128.Idx) 0).val = a.val := rfl
  have e1 : ((ix2 a c : S32x128.Idx) 1) = c := rfl
  simp only [e0, e1]
  by_cases hr1 : r = r1
  · subst hr1
    rw [if_pos ⟨by omega, c.isLt⟩]
  · have hr1' : r.val ≠ 2 * t + 1 := fun h => hr1 (Fin.ext (h.trans h1.symm))
    rw [if_neg (fun h => by have := h.1; omega)]
    by_cases hr0 : r = r0
    · subst hr0
      rw [if_pos ⟨by omega, c.isLt⟩]
    · have hr0' : r.val ≠ 2 * t := fun h => hr0 (Fin.ext (h.trans h0.symm))
      rw [if_neg (fun h => by have := h.1; omega)]
      exact hA r hlo (by omega) a ha c

/-- The accumulator after a trip: two rows more. -/
theorem acc_next (E : S100000x128.Idx → F .f32) (L : S128x4x50.Idx → BitVec 32) (A : S32x128.Idx → F .f32) (t : ℕ)
    (hA : AccOK E L A (32 * (t / 16)) (2 * t + 2)) : AccOK E L A (32 * ((t + 1) / 16)) (2 * (t + 1)) :=
  fun r hlo hhi => hA r (by omega) (by omega)

/-- What a tile holds before trip `n` of the main loop. -/
def Inv (d : Dev nD) (i : grid0.Coords) (E : S100000x128.Idx → F .f32) (X : S4096x4x50.Idx → BitVec 32) (f0 : S4096x128.Idx → F .f32)
    (pe pl : Fin 8 → PosShare TreeShare) (O : CellTallies nD τ sig (HIx 1)) (W : Waits sig (HIx 1)) (n : ℕ) : sProp 𝕄 :=
  iprop(Transfers.MayWaits (VT d i) (default : HIx 1) O
    ∗ At0 d i E (listsOf i X) pe pl (8 * n) ∗ At1 d i E (listsOf i X) pe pl (8 * n) ∗ At2 d i E (listsOf i X) pe pl (8 * n) ∗ At3 d i E (listsOf i X) pe pl (8 * n)
    ∗ At4 d i E (listsOf i X) pe pl (8 * n) ∗ At5 d i E (listsOf i X) pe pl (8 * n) ∗ At6 d i E (listsOf i X) pe pl (8 * n) ∗ At7 d i E (listsOf i X) pe pl (8 * n)
    ∗ (∃ A, ⌜AccOK E (listsOf i X) A (32 * (n / 16)) (2 * n)⌝ ∗ (aLoc d i ↦{fullShare} A))
    ∗ (oLoc d ↦[oSet i]{fullShare} outAt E X f0 (base i + 32 * (n / 16)))
    ∗ semVal (VT d i, SemLoc.dma cc0_scoped1.sem) 0 ∗ Owe d i O W)

set_option maxHeartbeats 2000000 in
/-- One trip of the outer loop keeps its invariant. -/
theorem wp_trip (d : Dev nD) (i : grid0.Coords) (E : S100000x128.Idx → F .f32) (X : S4096x4x50.Idx → BitVec 32) (hX : ∀ x, (X x).toNat < 100000)
    (f0 : S4096x128.Idx → F .f32) (pe pl : Fin 8 → PosShare TreeShare) (O : CellTallies nD τ sig (HIx 1)) (W : Waits sig (HIx 1)) (t : Fin k0_t1_loop.trips) (v : BitVec 32) :
    Inv d i E X f0 pe pl O W t.val ⊢
      wp frame (wpE (defs₀ (F := F)) 𝒱₀ (VT d i) none) Set.univ
        (k0_t1_body i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1 t v)
        fun _ => Inv d i E X f0 pe pl O W (t.val + 1) := by
  have ht := lt_64 t
  have hL := listsOf_lt i X hX
  obtain ⟨r0, hr0⟩ : ∃ r : Fin 128, r.val = 2 * t.val := ⟨⟨2 * t.val, by omega⟩, rfl⟩
  obtain ⟨r1, hr1⟩ : ∃ r : Fin 128, r.val = 2 * t.val + 1 := ⟨⟨2 * t.val + 1, by omega⟩, rfl⟩
  unfold Inv k0_t1_body
  iintro ⟨#Hmw, H0, H1, H2, H3, H4, H5, H6, H7, ⟨%A, %hA, HA⟩, Ho, Hsem, HO⟩
  iapply (wp_then d i (wp_part1 d i E (listsOf i X) hL pe pl O W t r0 hr0)) $$ [H0 H1 HO]
  · isplitr; · iexact Hmw
    isplitl [H0]; · iexact H0
    isplitl [H1]; · iexact H1
    iexact HO
  iintro %z ⟨%hz, H0, H1, HO⟩
  obtain ⟨a1, b1, rfl⟩ := hz
  ihave HA := (Entails.of_eq (congrArg (fun f => (aLoc d i ↦{fullShare} f : sProp 𝕄))
    (fillTo_zero A ((2 * t.val) % 32) (fun c => poolAt E (wordsOf (listsOf i X) r0) c)).symm)) $$ HA
  iapply (wp_then d i (wp_part2 d i E (listsOf i X) hL pe pl O W t A a1 b1 r0 hr0)) $$ [H2 H3 HA HO]
  · isplitr; · iexact Hmw
    isplitl [H2]; · iexact H2
    isplitl [H3]; · iexact H3
    isplitl [HA]; · iexact HA
    iexact HO
  iintro %z ⟨%hz, H2, H3, HA, HO⟩
  obtain ⟨a2, rfl⟩ := hz
  iapply (wp_then d i (wp_part3 d i E (listsOf i X) t A a2 r0)) $$ HA
  iintro %z ⟨%hz, HA⟩
  obtain ⟨b3, rfl⟩ := hz
  iapply (wp_then d i (wp_part4 d i E (listsOf i X) hL pe pl O W t A a1 b3 r0 r1 hr1)) $$ [H4 H5 HA HO]
  · isplitr; · iexact Hmw
    isplitl [H4]; · iexact H4
    isplitl [H5]; · iexact H5
    isplitl [HA]; · iexact HA
    iexact HO
  iintro %z ⟨%hz, H4, H5, HA, HO⟩
  obtain ⟨a4, rfl⟩ := hz
  iapply (wp_then d i (wp_part5 d i E (listsOf i X) hL pe pl O W t (fillTo A ((2 * t.val) % 32) (fun c => poolAt E (wordsOf (listsOf i X) r0) c) 128) a1 a4 r1 hr1)) $$ [H6 H7 HA HO]
  · isplitr; · iexact Hmw
    isplitl [H6]; · iexact H6
    isplitl [H7]; · iexact H7
    isplitl [HA]; · iexact HA
    iexact HO
  iintro %z ⟨%hz, H6, H7, HA, HO⟩
  obtain ⟨a5, rfl⟩ := hz
  ihave HA := (Entails.of_eq (congrArg (fun f => (aLoc d i ↦{fullShare} f : sProp 𝕄))
    (fillTo_zero (fillTo A ((2 * t.val) % 32) (fun c => poolAt E (wordsOf (listsOf i X) r0) c) 128) ((2 * t.val + 1) % 32) (fun c => poolAt E (wordsOf (listsOf i X) r1) c)).symm)) $$ HA
  iapply (wp_then d i (wp_part6 d i E (listsOf i X) t (fillTo A ((2 * t.val) % 32) (fun c => poolAt E (wordsOf (listsOf i X) r0) c) 128) a5 r1)) $$ HA
  iintro %z ⟨%hz, HA⟩
  subst hz
  iapply (wp_load_put d i (fillTo A ((2 * t.val) % 32) (fun c => poolAt E (wordsOf (listsOf i X) r0) c) 128) ((2 * t.val + 1) % 32) (by omega) _ 7 _
    (scaled_val E (wordsOf (listsOf i X) r1) 7) 112 rfl _ _ (accOff_1 t).2.2.2.2.2.2.2 _ rfl) $$ HA
  iintro HA
  have hA' := acc_step E (listsOf i X) A t.val ht r0 r1 hr0 hr1 hA
  iapply (wp_out d i E X f0 _ O W t hA' (fun _ => Prog.ret (0#32 : BitVec 32)) _) $$ [HA Ho Hsem HO]
  · isplitr; · iexact Hmw
    isplitl [HA]; · iexact HA
    isplitl [Ho]; · iexact Ho
    isplitl [Hsem]; · iexact Hsem
    iexact HO
  iintro ⟨HA, Ho, Hsem, HO⟩
  iapply (le_wp_ret _ _)
  isplitr; · iexact Hmw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]
  · iexists _
    isplitr
    rotate_left
    · iexact HA
    · ipureintro; exact acc_next E (listsOf i X) _ t.val hA'
  isplitl [Ho]; · iexact Ho
  isplitl [Hsem]; · iexact Hsem
  iexact HO

end Trip

end Cert.Proof.Lookup
-- ==== Proof.Tile.lean ====
/-
  The task of one tile: its lists copied in, eight gathers started, the main loop, everything handed back with the tile's rows of the result pooled.
-/
module

public import proofs.«01_k».proof.Proof.Trip

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ### The tile's own rows -/

/-- The tile's rows of the lists, as the kernel addresses them. -/
abbrev xRows (i : grid0.Coords) : Memref sig .scVector .hbm S128x4x50 .i32 :=
  (xV).slice (Rect.unit (s := S4096x4x50) (k0_off1 i) S128x4x50.size (k0_off1_inb i)) (fun _ => rfl)
/-- The tile's lists. -/
def xSet (i : grid0.Coords) : Finset S4096x4x50.Idx := (xRows i).view.set

/-- The tile's number. -/
def wid (i : grid0.Coords) : Fin 32 := ⟨2 * (i 1).val + (i 0).val, by
  have h0 : (i 0).val < 2 := (i 0).isLt
  have h1 : (i 1).val < 16 := (i 1).isLt
  omega⟩

/-- A tile's first row is 128 times its number. -/
theorem base_wid (i : grid0.Coords) : base i = 128 * (wid i).val := by
  show 256 * (i 1).val + 128 * (i 0).val = 128 * (2 * (i 1).val + (i 0).val); omega

/-- The tile's share of the table, and each slot's share of that; each slot's share of the lists. -/
def eShare (i : grid0.Coords) : PosShare TreeShare := pieceOf fullShare 32 (by decide) (wid i)
/-- The shares of the table and of the lists that each slot's gather reads with. -/
def peOf (i : grid0.Coords) (k : Fin 8) : PosShare TreeShare := pieceOf (eShare i) 8 (by decide) k
def plOf (k : Fin 8) : PosShare TreeShare := pieceOf fullShare 8 (by decide) k

/-- Eight parts, one by one. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Ten parts, one by one. -/
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The gather reads from the whole table. -/
theorem srcM_set : (srcM).view.set = (Finset.univ : Finset S100000x128.Idx) := by
  refine Finset.eq_univ_iff_forall.mpr fun x => Finset.mem_map.mpr ⟨x, Finset.mem_univ _, srcM_emb x⟩

/-- The row slots as sets of the scratch's elements. -/
def slotSet (k : Fin 8) : Finset S8x50x128.Idx := Finset.univ.filter fun x => (x 0).val = k.val

/-- A slot's elements. -/
theorem slotSet_eq (k : Fin 8) (n : ℕ) (hn : n = k.val) (h) : (slotM n h).view.set = slotSet k := by
  subst hn
  ext x
  refine (slot_set k.val h x).trans ?_
  unfold slotSet
  rw [Finset.mem_filter]
  exact ⟨fun e => ⟨Finset.mem_univ _, e⟩, fun e => e.2⟩

/-- Slots share no element. -/
theorem slotSet_disjoint : ∀ b b', b ≠ b' → Disjoint (slotSet b) (slotSet b') := fun b b' h =>
  Finset.disjoint_left.mpr fun x hx hx' => h (Fin.ext ((Finset.mem_filter.mp hx).2.symm.trans (Finset.mem_filter.mp hx').2))

/-- The slots make up the row buffer. -/
theorem slotSet_cover : Finset.univ.biUnion slotSet = Finset.univ :=
  Finset.eq_univ_iff_forall.mpr fun x => Finset.mem_biUnion.mpr ⟨x 0, Finset.mem_univ _, Finset.mem_filter.mpr ⟨Finset.mem_univ _, rfl⟩⟩

/-- The ten counters of a tile. -/
def semN : Fin 10 → DmaSem sig := ![cc0_scratch3.sem, cc0_scratch4.sem, cc0_scratch5.sem, cc0_scratch6.sem, cc0_scratch7.sem, cc0_scratch8.sem, cc0_scratch9.sem,
  cc0_scratch10.sem, cc0_scoped0.sem, cc0_scoped1.sem]

/-- The ten counters have distinct names. -/
theorem semN_injective : Function.Injective semN := by decide

/-- What a slot needs besides its share of the lists. -/
def Bare (d : Dev nD) (i : grid0.Coords) (E : S100000x128.Idx → F .f32) (k : ℕ) (h : ∀ a, (![k, 0, 0] : Fin 3 → ℕ) a + S1x50x128.size a ≤ S8x50x128.size a)
    (sem : DmaSem sig) (pe : PosShare TreeShare) : sProp 𝕄 :=
  iprop((∃ f, (slotM k h).view.loc (VT d i) ↦[(slotM k h).view.set]{fullShare} f) ∗ ((srcM).view.loc (VT d i) ↦[(srcM).view.set]{pe} E)
    ∗ semVal (VT d i, SemLoc.dma sem) 0)

/-- A slot with no gather in flight is the bare slot and its share of the lists. -/
theorem Idle_eq (d : Dev nD) (i : grid0.Coords) (E : S100000x128.Idx → F .f32) (L : S128x4x50.Idx → BitVec 32) (k : ℕ) (h) (sem : DmaSem sig) (pe pl : PosShare TreeShare) :
    (Idle d i E L k h sem pe pl : sProp 𝕄) ⊣⊢ iprop(Bare d i E k h sem pe ∗ (lLoc d i ↦{pl} L)) := by
  unfold Idle Bare Shares
  constructor
  · iintro ⟨Hs, ⟨He, Hl⟩, Hv⟩
    isplitr [Hl]
    · isplitl [Hs]; · iexact Hs
      isplitl [He]; · iexact He
      iexact Hv
    · iexact Hl
  · iintro ⟨⟨Hs, He, Hv⟩, Hl⟩
    isplitl [Hs]; · iexact Hs
    isplitr [Hv]
    · isplitl [He]; · iexact He
      iexact Hl
    · iexact Hv

section Tile

variable [FloatOps F] [Named F]

/-- The first gather of a slot. -/
theorem wp_first (d : Dev nD) (i : grid0.Coords) (E : S100000x128.Idx → F .f32) (L : S128x4x50.Idx → BitVec 32)
    (hL : ∀ x, (L x).toNat < 100000) (k : ℕ) (h) (sem : DmaSem sig) (pe pl : PosShare TreeShare) (n : ℕ) (hn8 : n < 512) (off : Fin 3 → ℕ) (ho)
    (hoff : off = ![(rowNo n).val, (partNo n).val, 0]) {hn} {hp} {hsrc} {he} {hsp} {hr} {β : Type}
    (kk : PUnit.{1} → Prog (TpuEff nD τ sig (Elt F) Λ₀ (.scVector (cV i) (jV i))) β) (Q : β → sProp 𝕄) :
    iprop(Bare d i E k h sem pe ∗ (lLoc d i ↦{pl} L)) ⊢
      iprop((SlotAt d i E L k h sem pe pl n -∗ wp frame (wpE (defs₀ (F := F)) 𝒱₀ (VT d i) none) Set.univ (kk ⟨⟩) Q)
      -∗ wp frame (wpE (defs₀ (F := F)) 𝒱₀ (VT d i) none) Set.univ
        (SparseCore.enqueueIndirectGather hp (srcM) (slotM k h) gathers_S100000x128_S50x128 (listM off ho) hn sem hsrc he hsp hr >>= kk) Q) := by
  unfold SlotAt
  rw [if_pos hn8]
  exact (Idle_eq d i E L k h sem pe pl).2.trans (wp_issue d i E L hL k h sem pe pl off ho (rowNo n) (partNo n) hoff kk Q)

/-- What the copy of the lists leaves in the list buffer. -/
theorem copy_val (i : grid0.Coords) (X : S4096x4x50.Idx → BitVec 32) (f : S128x4x50.Idx → BitVec 32) :
    (lV).view.write (Elt F) f ((xRows i).view.read (Elt F) X) Finset.univ = listsOf i X := by
  rw [View.write_whole_univ]
  funext x
  rw [View.read_apply, cast_eq]
  refine congrArg X ?_
  have e : ∀ a, ((xRows i).view.emb x a).val = k0_off1 i a + 1 * (x a).val := fun a => rfl
  rw [k0_off1_eq] at e
  funext a
  match a with
  | ⟨0, _⟩ => exact Fin.ext ((e 0).trans (show 256 * (i 1).val + 128 * (i 0).val + 1 * (x 0).val = base i + (x 0).val by unfold base; omega))
  | ⟨1, _⟩ => exact Fin.ext ((e 1).trans (show 0 + 1 * (x 1).val = (x 1).val by omega))
  | ⟨2, _⟩ => exact Fin.ext ((e 2).trans (show 0 + 1 * (x 2).val = (x 2).val by omega))

variable (d : Dev nD) (i : grid0.Coords) (E : S100000x128.Idx → F .f32) (X : S4096x4x50.Idx → BitVec 32) (hX : ∀ x, (X x).toNat < 100000)
  (pe : Fin 8 → PosShare TreeShare) (O : CellTallies nD τ sig (HIx 1)) (W : Waits sig (HIx 1))

abbrev Bare0 : sProp 𝕄 := Bare d i E 0 inb_S8x50x128_S1x50x128_0_0_0 cc0_scratch3.sem (pe 0)
abbrev Bare1 : sProp 𝕄 := Bare d i E 1 inb_S8x50x128_S1x50x128_1_0_0 cc0_scratch4.sem (pe 1)
abbrev Bare2 : sProp 𝕄 := Bare d i E 2 inb_S8x50x128_S1x50x128_2_0_0 cc0_scratch5.sem (pe 2)
abbrev Bare3 : sProp 𝕄 := Bare d i E 3 inb_S8x50x128_S1x50x128_3_0_0 cc0_scratch6.sem (pe 3)
abbrev Bare4 : sProp 𝕄 := Bare d i E 4 inb_S8x50x128_S1x50x128_4_0_0 cc0_scratch7.sem (pe 4)
abbrev Bare5 : sProp 𝕄 := Bare d i E 5 inb_S8x50x128_S1x50x128_5_0_0 cc0_scratch8.sem (pe 5)
abbrev Bare6 : sProp 𝕄 := Bare d i E 6 inb_S8x50x128_S1x50x128_6_0_0 cc0_scratch9.sem (pe 6)
abbrev Bare7 : sProp 𝕄 := Bare d i E 7 inb_S8x50x128_S1x50x128_7_0_0 cc0_scratch10.sem (pe 7)
abbrev LL (k : Fin 8) : sProp 𝕄 := iprop(lLoc d i ↦{plOf k} listsOf i X)

/-- The lists, held whole, are held by the eight slots' shares. -/
theorem lists_split : (lLoc d i ↦{fullShare} listsOf i X : sProp 𝕄)
    = iprop(LL d i X 0 ∗ LL d i X 1 ∗ LL d i X 2 ∗ LL d i X 3 ∗ LL d i X 4 ∗ LL d i X 5 ∗ LL d i X 6 ∗ LL d i X 7) := by
  have h : (lLoc d i ↦{fullShare} listsOf i X : sProp 𝕄) = bigSep Finset.univ fun k => LL d i X k := pointsTo_piecesOf _ _ _ _
  rw [h, bigSep_fin8]

include hX in
set_option maxHeartbeats 1000000 in
/-- Part 7, before the loop: the lists are copied in and the first two gathers begun. -/
theorem wp_part7 (f : S128x4x50.Idx → BitVec 32) :
    iprop(Transfers.MayWaits (VT d i) (default : HIx 1) O ∗ (xLoc d ↦[xSet i]{fullShare} X) ∗ (lLoc d i ↦{fullShare} f) ∗ semVal (VT d i, SemLoc.dma cc0_scoped0.sem) 0
        ∗ Bare0 d i E pe ∗ Bare1 d i E pe ∗ Owe d i O W) ⊢
      wp frame (wpE (defs₀ (F := F)) 𝒱₀ (VT d i) none) Set.univ
        (k0_part7 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1)
        fun _ => iprop((xLoc d ↦[xSet i]{fullShare} X) ∗ semVal (VT d i, SemLoc.dma cc0_scoped0.sem) 0 ∗ At0 d i E (listsOf i X) pe plOf (8 * 0) ∗ At1 d i E (listsOf i X) pe plOf (8 * 0)
          ∗ (LL d i X 2 ∗ LL d i X 3 ∗ LL d i X 4 ∗ LL d i X 5 ∗ LL d i X 6 ∗ LL d i X 7) ∗ Owe d i O W) := by
  have hL := listsOf_lt i X hX
  rw [k0_part7_eq_skeleton]; unfold k0_part7_skel xSet
  iintro ⟨Hmw, Hx, Hl, Hsem, B0, B1, HO⟩
  unfold Owe
  icases HO with ⟨%W', %hW, HO⟩
  iapply (Transfers.wp_dmaLocal countersEmb 𝒱₀ (VT d i) none (src := xRows i) (dst := lV) (fs := X) (q := fullShare)
      (fd := f) (Sd := Finset.univ) (default : HIx 1) _ rfl (View.amount_pos _ _ (show 0 < S128x4x50.numel by decide)) (Finset.subset_univ _)) $$ [Hx Hl Hsem]
  · isplitl [Hx]; · iexact Hx
    isplitl [Hl]; · iexact Hl
    iexact Hsem
  iintro Hfl
  iapply (Transfers.wp_waitLocalO countersEmb 𝒱₀ (VT d i) none (default : HIx 1) rfl) $$ [Hfl HO Hmw]
  · isplitl [Hfl]; · iexact Hfl
    isplitl [HO]; · iexact HO
    iapply (Transfers.MayWaits.elim (SemLoc.dma cc0_scoped0.sem)) $$ Hmw
  iintro ⟨⟨Hl, Hx⟩, Hsem, HO⟩
  ihave Hl := (Entails.of_eq ((congrArg (fun g => (lLoc d i ↦{fullShare} g : sProp 𝕄)) (copy_val (F := F) i X f)).trans (lists_split d i X))) $$ Hl
  icases Hl with ⟨L0, L1, L2, L3, L4, L5, L6, L7⟩
  iapply (wp_first d i E (listsOf i X) hL 0 inb_S8x50x128_S1x50x128_0_0_0 cc0_scratch3.sem (pe 0) (plOf 0) (8 * 0 + 0) (by decide) _ _ (by decide) (hsp := Or.inl rfl) (hr := by decide)) $$ [B0 L0]
  · isplitl [B0]; · iexact B0
    iexact L0
  iintro H0
  iapply (wp_first d i E (listsOf i X) hL 1 inb_S8x50x128_S1x50x128_1_0_0 cc0_scratch4.sem (pe 1) (plOf 1) (8 * 0 + 1) (by decide) _ _ (by decide)) $$ [B1 L1]
  · isplitl [B1]; · iexact B1
    iexact L1
  iintro H1
  iapply (le_wp_ret _ _)
  isplitl [Hx]; · iexact Hx
  isplitl [Hsem]; · iexact Hsem
  isplitl [H0]; · iexact H0
  isplitl [H1]; · iexact H1
  isplitl [L2 L3 L4 L5 L6 L7]
  · isplitl [L2]; · iexact L2
    isplitl [L3]; · iexact L3
    isplitl [L4]; · iexact L4
    isplitl [L5]; · iexact L5
    isplitl [L6]; · iexact L6
    iexact L7
  iexists _
  isplitr
  rotate_left
  · iexact HO
  · ipureintro
    intro p hp
    rcases Finset.mem_insert.mp hp with rfl | hp
    · exact Or.inr rfl
    · exact hW p hp

include hX in
set_option maxHeartbeats 1000000 in
/-- Part 8, before the loop: the next five gathers begun. -/
theorem wp_part8 :
    iprop((Bare2 d i E pe ∗ Bare3 d i E pe ∗ Bare4 d i E pe ∗ Bare5 d i E pe ∗ Bare6 d i E pe) ∗ (LL d i X 2 ∗ LL d i X 3 ∗ LL d i X 4 ∗ LL d i X 5 ∗ LL d i X 6)) ⊢
      wp frame (wpE (defs₀ (F := F)) 𝒱₀ (VT d i) none) Set.univ
        (k0_part8 i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1)
        fun _ => iprop(At2 d i E (listsOf i X) pe plOf (8 * 0) ∗ At3 d i E (listsOf i X) pe plOf (8 * 0) ∗ At4 d i E (listsOf i X) pe plOf (8 * 0)
          ∗ At5 d i E (listsOf i X) pe plOf (8 * 0) ∗ At6 d i E (listsOf i X) pe plOf (8 * 0)) := by
  have hL := listsOf_lt i X hX
  rw [k0_part8_eq_skeleton]; unfold k0_part8_skel
  iintro ⟨⟨B2, B3, B4, B5, B6⟩, L2, L3, L4, L5, L6⟩
  iapply (wp_first d i E (listsOf i X) hL 2 inb_S8x50x128_S1x50x128_2_0_0 cc0_scratch5.sem (pe 2) (plOf 2) (8 * 0 + 2) (by decide) _ _ (by decide)) $$ [B2 L2]
  · isplitl [B2]; · iexact B2
    iexact L2
  iintro H2
  iapply (wp_first d i E (listsOf i X) hL 3 inb_S8x50x128_S1x50x128_3_0_0 cc0_scratch6.sem (pe 3) (plOf 3) (8 * 0 + 3) (by decide) _ _ (by decide)) $$ [B3 L3]
  · isplitl [B3]; · iexact B3
    iexact L3
  iintro H3
  iapply (wp_first d i E (listsOf i X) hL 4 inb_S8x50x128_S1x50x128_4_0_0 cc0_scratch7.sem (pe 4) (plOf 4) (8 * 0 + 4) (by decide) _ _ (by decide)) $$ [B4 L4]
  · isplitl [B4]; · iexact B4
    iexact L4
  iintro H4
  iapply (wp_first d i E (listsOf i X) hL 5 inb_S8x50x128_S1x50x128_5_0_0 cc0_scratch8.sem (pe 5) (plOf 5) (8 * 0 + 5) (by decide) _ _ (by decide)) $$ [B5 L5]
  · isplitl [B5]; · iexact B5
    iexact L5
  iintro H5
  iapply (wp_first d i E (listsOf i X) hL 6 inb_S8x50x128_S1x50x128_6_0_0 cc0_scratch9.sem (pe 6) (plOf 6) (8 * 0 + 6) (by decide) _ _ (by decide)) $$ [B6 L6]
  · isplitl [B6]; · iexact B6
    iexact L6
  iintro H6
  iapply (le_wp_ret _ _)
  isplitl [H2]; · iexact H2
  isplitl [H3]; · iexact H3
  isplitl [H4]; · iexact H4
  isplitl [H5]; · iexact H5
  iexact H6

end Tile

end Cert.Proof.Lookup
-- ==== Proof.Task.lean ====
/-
  A tile's task from end to end, and the launch's obligation for it.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Task

variable [FloatOps F] [Named F]

/-- After the last step a slot is bare. -/
theorem slot_done (d : Dev nD) (i : grid0.Coords) (E : S100000x128.Idx → F .f32) (L : S128x4x50.Idx → BitVec 32) (k : ℕ) (h) (sem : DmaSem sig) (pe pl : PosShare TreeShare)
    (n : ℕ) (hn : ¬ n < 512) : (SlotAt d i E L k h sem pe pl n : sProp 𝕄) ⊢ iprop(Bare d i E k h sem pe ∗ (lLoc d i ↦{pl} L)) := by
  unfold SlotAt
  rw [if_neg hn]
  exact (Idle_eq d i E L k h sem pe pl).1

/-- On the tile's rows: nothing written yet, and everything written. -/
theorem outAt_none (d : Dev nD) (i : grid0.Coords) (E : S100000x128.Idx → F .f32) (X : S4096x4x50.Idx → BitVec 32) (f0 : S4096x128.Idx → F .f32) :
    (oLoc d ↦[oSet i]{fullShare} f0 : sProp 𝕄) = oLoc d ↦[oSet i]{fullShare} outAt E X f0 (base i + 32 * (0 / 16)) :=
  pointsTo_congr fun x hx => by
    have hx := (mem_oSet i x).mp hx
    unfold outAt
    rw [if_neg (by omega)]

/-- After the last write-out all the tile's rows are written. -/
theorem outAt_all (d : Dev nD) (i : grid0.Coords) (E : S100000x128.Idx → F .f32) (X : S4096x4x50.Idx → BitVec 32) (f0 : S4096x128.Idx → F .f32) :
    (oLoc d ↦[oSet i]{fullShare} outAt E X f0 (base i + 32 * (64 / 16)) : sProp 𝕄) = oLoc d ↦[oSet i]{fullShare} pooled E X :=
  pointsTo_congr fun x hx => by
    have hx := (mem_oSet i x).mp hx
    unfold outAt
    rw [if_pos (by omega)]

variable (d : Dev nD) (i : grid0.Coords) (E : S100000x128.Idx → F .f32) (X : S4096x4x50.Idx → BitVec 32) (hX : ∀ x, (X x).toNat < 100000)
  (f0 : S4096x128.Idx → F .f32) (O : CellTallies nD τ sig (HIx 1)) (W : Waits sig (HIx 1))

/-- The eight slots, none of them started. -/
abbrev Bares : sProp 𝕄 := iprop(Bare0 d i E (peOf i) ∗ Bare1 d i E (peOf i) ∗ Bare2 d i E (peOf i) ∗ Bare3 d i E (peOf i) ∗ Bare4 d i E (peOf i) ∗ Bare5 d i E (peOf i)
  ∗ Bare6 d i E (peOf i) ∗ Bare7 d i E (peOf i))

include hX in
set_option maxHeartbeats 2000000 in
/-- The tile's body, from its scratch taken apart. -/
theorem tile_core (f : S128x4x50.Idx → BitVec 32) :
    iprop(Transfers.MayWaits (VT d i) (default : HIx 1) O ∗ (xLoc d ↦[xSet i]{fullShare} X) ∗ (lLoc d i ↦{fullShare} f) ∗ (∃ A, aLoc d i ↦{fullShare} A)
        ∗ semVal (VT d i, SemLoc.dma cc0_scoped0.sem) 0 ∗ semVal (VT d i, SemLoc.dma cc0_scoped1.sem) 0 ∗ Bares d i E ∗ (oLoc d ↦[oSet i]{fullShare} f0) ∗ Owe d i O W) ⊢
      wp frame (wpE (defs₀ (F := F)) 𝒱₀ (VT d i) none) Set.univ
        (cc0_k i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1)
        fun _ => iprop((xLoc d ↦[xSet i]{fullShare} X) ∗ (∃ f, lLoc d i ↦{fullShare} f) ∗ (∃ A, aLoc d i ↦{fullShare} A)
          ∗ semVal (VT d i, SemLoc.dma cc0_scoped0.sem) 0 ∗ semVal (VT d i, SemLoc.dma cc0_scoped1.sem) 0 ∗ Bares d i E ∗ (oLoc d ↦[oSet i]{fullShare} pooled E X) ∗ Owe d i O W) := by
  have hL := listsOf_lt i X hX
  rw [cc0_k_eq_skeleton]; unfold cc0_k_skel
  iintro ⟨#Hmw, Hx, Hl, ⟨%A, HA⟩, Hs0, Hs1, ⟨B0, B1, B2, B3, B4, B5, B6, B7⟩, Ho, HO⟩
  iapply (wp_then d i (wp_part7 d i E X hX (peOf i) O W f)) $$ [Hx Hl Hs0 B0 B1 HO]
  · isplitr; · iexact Hmw
    isplitl [Hx]; · iexact Hx
    isplitl [Hl]; · iexact Hl
    isplitl [Hs0]; · iexact Hs0
    isplitl [B0]; · iexact B0
    isplitl [B1]; · iexact B1
    iexact HO
  iintro %z ⟨Hx, Hs0, H0, H1, ⟨L2, L3, L4, L5, L6, L7⟩, HO⟩
  iapply (wp_then d i (wp_part8 d i E X hX (peOf i))) $$ [B2 B3 B4 B5 B6 L2 L3 L4 L5 L6]
  · isplitl [B2 B3 B4 B5 B6]
    · isplitl [B2]; · iexact B2
      isplitl [B3]; · iexact B3
      isplitl [B4]; · iexact B4
      isplitl [B5]; · iexact B5
      iexact B6
    · isplitl [L2]; · iexact L2
      isplitl [L3]; · iexact L3
      isplitl [L4]; · iexact L4
      isplitl [L5]; · iexact L5
      iexact L6
  iintro %z' ⟨H2, H3, H4, H5, H6⟩
  iapply (wp_first d i E (listsOf i X) hL 7 inb_S8x50x128_S1x50x128_7_0_0 cc0_scratch10.sem (peOf i 7) (plOf 7) (8 * 0 + 7) (by decide) _ _ (by decide) (hsp := Or.inl rfl) (hr := by decide)) $$ [B7 L7]
  · isplitl [B7]; · iexact B7
    iexact L7
  iintro H7
  ihave Ho := (Entails.of_eq (outAt_none d i E X f0)) $$ Ho
  iapply (Scf.wp_for_bind frame (wpE (defs₀ (F := F)) 𝒱₀ (VT d i) none) Set.univ k0_t1_loop.lb k0_t1_loop.ub k0_t1_loop.st k0_t1_ok
    (0#32 : BitVec 32) (k0_t1_body i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1)
    (fun t _ => Inv d i E X f0 (peOf i) plOf O W t) (fun t v => wp_trip d i E X hX f0 (peOf i) plOf O W t v)) $$ [HA H0 H1 H2 H3 H4 H5 H6 H7 Ho Hs1 HO]
  · unfold Inv
    isplitr; · iexact Hmw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]
    · iexists A
      isplitr
      · ipureintro; intro r hlo hhi; omega
      · iexact HA
    isplitl [Ho]; · iexact Ho
    isplitl [Hs1]; · iexact Hs1
    iexact HO
  iintro %acc HI
  rw [show Scf.trips k0_t1_loop.lb k0_t1_loop.ub k0_t1_loop.st = 64 from trips_64]
  unfold Inv
  icases HI with ⟨-, H0, H1, H2, H3, H4, H5, H6, H7, ⟨%A', -, HA⟩, Ho, Hs1, HO⟩
  ihave Ho := (Entails.of_eq (outAt_all d i E X f0)) $$ Ho
  ihave H0 := (slot_done d i E (listsOf i X) 0 _ _ _ _ _ (by decide)) $$ H0
  ihave H1 := (slot_done d i E (listsOf i X) 1 _ _ _ _ _ (by decide)) $$ H1
  ihave H2 := (slot_done d i E (listsOf i X) 2 _ _ _ _ _ (by decide)) $$ H2
  ihave H3 := (slot_done d i E (listsOf i X) 3 _ _ _ _ _ (by decide)) $$ H3
  ihave H4 := (slot_done d i E (listsOf i X) 4 _ _ _ _ _ (by decide)) $$ H4
  ihave H5 := (slot_done d i E (listsOf i X) 5 _ _ _ _ _ (by decide)) $$ H5
  ihave H6 := (slot_done d i E (listsOf i X) 6 _ _ _ _ _ (by decide)) $$ H6
  ihave H7 := (slot_done d i E (listsOf i X) 7 _ _ _ _ _ (by decide)) $$ H7
  icases H0 with ⟨B0, L0⟩
  icases H1 with ⟨B1, L1⟩
  icases H2 with ⟨B2, L2⟩
  icases H3 with ⟨B3, L3⟩
  icases H4 with ⟨B4, L4⟩
  icases H5 with ⟨B5, L5⟩
  icases H6 with ⟨B6, L6⟩
  icases H7 with ⟨B7, L7⟩
  ihave Hl := (Entails.of_eq (lists_split d i X).symm) $$ [L0 L1 L2 L3 L4 L5 L6 L7]
  · isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  iapply (le_wp_ret _ _)
  isplitl [Hx]; · iexact Hx
  isplitl [Hl]; · iexists _; iexact Hl
  isplitl [HA]; · iexists _; iexact HA
  isplitl [Hs0]; · iexact Hs0
  isplitl [Hs1]; · iexact Hs1
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [Ho]; · iexact Ho
  iexact HO

end Task

end Cert.Proof.Lookup
-- ==== Proof.Call.lean ====
/-
  The SparseCore call as the launch sees it: what each tile is handed and hands back, its obligation, and the split among the tiles.
-/
module

public import proofs.«01_k».proof.Proof.Task
public import Idealize.ShloMosaic.Lib.Ring

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ### A tile's own buffers and counters -/

section Own

variable (d : Dev nD) (i : grid0.Coords)

/-- A tile's counters, by number. -/
abbrev cellN (k : Fin 10) : GSem nD τ sig := (VT d i, SemLoc.dma (semN k))

/-- The tile's ten counters are distinct. -/
theorem cellN_injective : Function.Injective (cellN d i) := fun a b h => semN_injective (by
  have h2 : (SemLoc.dma (semN a) : SemLoc sig) = SemLoc.dma (semN b) := congrArg Prod.snd h
  exact SemLoc.dma.inj h2)

/-- They are the tile's own. -/
theorem cellN_own (k : Fin 10) : cellN d i k ∈ ownCells (VT d i) :=
  mem_ownCells.mpr ⟨rfl, (by decide : ∀ k : Fin 10, (SemLoc.dma (semN k) : SemLoc sig).isScoped .scVector = true) k⟩

abbrev RestSems : sProp 𝕄 := bigSep (ownCells (VT d i) \ Finset.univ.image (cellN d i)) fun g => semVal g 0

/-- The tile's counters at zero: the ten, and the others. -/
theorem ownSems0_eq : (ownSems0 (VT d i) : sProp 𝕄) = iprop((bigSep Finset.univ fun k => semVal (cellN d i k) 0) ∗ RestSems d i) := by
  unfold SparseCore.Cfg.ownSems0
  refine (SparseCore.bigSep_sdiff_split' (t := Finset.univ.image (cellN d i)) fun g hg => ?_).trans ?_
  · obtain ⟨k, _, rfl⟩ := Finset.mem_image.mp hg
    exact cellN_own d i k
  · rw [bigSep_image_of_injOn fun a _ b _ h => cellN_injective d i h]

abbrev RestBufs : sProp 𝕄 :=
  bigSep ((((ownRefs (τ := τ) (.scVector (cV i) (jV i))).erase ((Proc.scVector (cV i) (jV i)).devRef cc0_scratch0)).erase
      ((Proc.scVector (cV i) (jV i)).devRef cc0_scratch1)).erase ((Proc.scVector (cV i) (jV i)).devRef cc0_scratch2))
    fun b => iprop(∃ f, ((d, b) : Loc nD τ sig) ↦{fullShare} f)

/-- The tile's buffers: the three scratch buffers, and the others. -/
theorem ownBufs_eq : (ownBufs (VT d i) : sProp 𝕄)
    = iprop((∃ f, lLoc d i ↦{fullShare} f) ∗ (∃ f, rLoc d i ↦{fullShare} f) ∗ (∃ f, aLoc d i ↦{fullShare} f) ∗ RestBufs d i) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV i) (jV i)) (b := (Proc.scVector (cV i) (jV i)).devRef cc0_scratch2) rfl⟩⟩)]

/-- The row scratch as its eight slots. -/
theorem slots_split (f : S8x50x128.Idx → F .f32) : (rLoc d i ↦{fullShare} f : sProp 𝕄) = bigSep Finset.univ fun k : Fin 8 => rLoc d i ↦[slotSet k]{fullShare} f :=
  Ring.pointsTo_blocks (ℓ := rLoc d i) (Val := Elt F) slotSet slotSet_disjoint slotSet_cover f

/-- A slot with some contents. -/
theorem slot_any (k : Fin 8) (f : S8x50x128.Idx → F .f32) : (rLoc d i ↦[slotSet k]{fullShare} f : sProp 𝕄) ⊢ iprop(∃ f, rLoc d i ↦[slotSet k]{fullShare} f) := by
  iintro H; iexists f; iexact H

/-- All slots with some contents. -/
theorem slots_any (f : S8x50x128.Idx → F .f32) : (bigSep Finset.univ fun k : Fin 8 => rLoc d i ↦[slotSet k]{fullShare} f : sProp 𝕄)
    ⊢ bigSep Finset.univ fun k : Fin 8 => iprop(∃ f, rLoc d i ↦[slotSet k]{fullShare} f) :=
  bigSep_mono fun k _ => slot_any d i k f

/-- The slots, each with some contents, are the row buffer. -/
theorem slots_join (f₀ : S8x50x128.Idx → F .f32) : (bigSep Finset.univ fun k : Fin 8 => iprop(∃ f, rLoc d i ↦[slotSet k]{fullShare} f)) ⊢ (iprop(∃ f, rLoc d i ↦{fullShare} f) : sProp 𝕄) :=
  Ring.pointsTo_blocks_join_exists (ℓ := rLoc d i) slotSet slotSet_disjoint slotSet_cover f₀

/-- The tile's share of the table as the slots' shares. -/
theorem table_split (E : S100000x128.Idx → F .f32) :
    (eLoc d ↦{eShare i} E : sProp 𝕄) = bigSep Finset.univ fun k : Fin 8 => eLoc d ↦{peOf i k} E := pointsTo_piecesOf _ _ _ _

/-- A slot before its first gather, by its set. -/
theorem Bare_eq (E : S100000x128.Idx → F .f32) (k : Fin 8) (n : ℕ) (hn : n = k.val) (h) (sem : DmaSem sig) (pe : PosShare TreeShare) :
    (Bare d i E n h sem pe : sProp 𝕄) = iprop((∃ f, rLoc d i ↦[slotSet k]{fullShare} f) ∗ (eLoc d ↦{pe} E) ∗ semVal (VT d i, SemLoc.dma sem) 0) := by
  unfold Bare
  rw [slotSet_eq k n hn h, srcM_set]

/-- The eight slots before their first gathers: the row scratch cut up, the table's shares, the slots' counters. -/
theorem Bares_eq (E : S100000x128.Idx → F .f32) :
    (Bares d i E : sProp 𝕄) = iprop((bigSep Finset.univ fun k : Fin 8 => iprop(∃ f, rLoc d i ↦[slotSet k]{fullShare} f))
      ∗ (bigSep Finset.univ fun k : Fin 8 => eLoc d ↦{peOf i k} E) ∗ (bigSep Finset.univ fun k : Fin 8 => semVal (cellN d i (k.castLE (by decide))) 0)) := by
  rw [← bigSep_sep', ← bigSep_sep', bigSep_fin8]
  unfold Bares Bare0 Bare1 Bare2 Bare3 Bare4 Bare5 Bare6 Bare7
  rw [Bare_eq d i E 0 0 rfl, Bare_eq d i E 1 1 rfl, Bare_eq d i E 2 2 rfl, Bare_eq d i E 3 3 rfl, Bare_eq d i E 4 4 rfl, Bare_eq d i E 5 5 rfl, Bare_eq d i E 6 6 rfl, Bare_eq d i E 7 7 rfl]
  rfl

/-- The ten counters: the slots' eight, then the two of the copies. -/
theorem cells_split : (bigSep Finset.univ fun k => semVal (cellN d i k) 0 : sProp 𝕄)
    ⊣⊢ iprop((bigSep Finset.univ fun k : Fin 8 => semVal (cellN d i (k.castLE (by decide))) 0)
      ∗ semVal (VT d i, SemLoc.dma cc0_scoped0.sem) 0 ∗ semVal (VT d i, SemLoc.dma cc0_scoped1.sem) 0) := by
  rw [bigSep_fin10, bigSep_fin8]
  constructor
  · iintro ⟨H0, H1, H2, H3, H4, H5, H6, H7, H8, H9⟩
    isplitr [H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [H8]; · iexact H8
      iexact H9
  · iintro ⟨⟨H0, H1, H2, H3, H4, H5, H6, H7⟩, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Own

/-! ### The task, from its thread's own resources -/

section Body

variable [FloatOps F] [Named F]

/-- What a tile is handed: its rows' lists, its share of the table, its rows of the result. -/
abbrev Handed (d : Dev nD) (i : grid0.Coords) (E : S100000x128.Idx → F .f32) (X : S4096x4x50.Idx → BitVec 32) (f : S4096x128.Idx → F .f32) : sProp 𝕄 :=
  iprop((xLoc d ↦[xSet i]{fullShare} X) ∗ (eLoc d ↦{eShare i} E) ∗ (oLoc d ↦[oSet i]{fullShare} f))

/-- A tile's body: from what it is handed it leaves its pooled rows. -/
theorem tile_body (d : Dev nD) (i : grid0.Coords) (E : S100000x128.Idx → F .f32) (X : S4096x4x50.Idx → BitVec 32) (hX : ∀ x, (X x).toNat < 100000)
    (f0 : S4096x128.Idx → F .f32) (O : CellTallies nD τ sig (HIx 1)) (W : Waits sig (HIx 1)) (hO : ∀ g, O g none = 0) :
    iprop(levAts (K (F := F)).L (K (F := F)).lev ∗ emp ∗ Handed d i E X f0 ∗ scopedBufs (VT d i) ∗ scopedSems0 (VT d i) ∗ owes (VT d i) O W) ⊢
      wp frame (wpE (defs₀ (F := F)) 𝒱₀ (VT d i) none) Set.univ
        (cc0_k i xV (Memref.isWhole_whole _) eV (Memref.isWhole_whole _) oV (Memref.isWhole_whole _) lV (Memref.isWhole_whole _) rV (Memref.isWhole_whole _)
          aV (Memref.isWhole_whole _) cc0_scratch3 cc0_scratch4 cc0_scratch5 cc0_scratch6 cc0_scratch7 cc0_scratch8 cc0_scratch9 cc0_scratch10 cc0_scoped0 cc0_scoped1)
        fun _ => iprop(Handed d i E X (pooled E X) ∗ scopedBufs (VT d i) ∗ scopedSems0 (VT d i)
          ∗ ∃ W', ⌜∀ p ∈ W', p ∈ W ∨ p.2 = none⌝ ∗ owes (VT d i) O W') := by
  rw [(K (F := F)).scopedBufs_V scFacts d (cV i) (jV i), SparseCore.Cfg.scopedSems0_V (Val := Elt F) d (cV i) (jV i), ownSems0_eq, ownBufs_eq]
  iintro ⟨#Hlv, -, ⟨Hx, He, Ho⟩, ⟨⟨%fl, Hl⟩, ⟨%fr, Hr⟩, Ha, Hbufs⟩, ⟨Hcells, Hsems⟩, HO⟩
  ihave Hmw := (show levAts (K (F := F)).L (K (F := F)).lev ⊢ Transfers.MayWaits (VT d i) (default : HIx 1) O from
    (K (F := F)).mayWaits_none (thr := VT d i) hO) $$ Hlv
  ihave Hc := (cells_split d i).1 $$ Hcells
  icases Hc with ⟨Hc, Hs0, Hs1⟩
  ihave Hr := (Entails.of_eq (slots_split d i fr)) $$ Hr
  ihave Hr := (slots_any d i fr) $$ Hr
  ihave He := (Entails.of_eq (table_split d i E)) $$ He
  iapply (wp_wand_r frame (wpE (defs₀ (F := F)) 𝒱₀ (VT d i) none) Set.univ)
  isplitl [Hmw Hx Hl Ha Hs0 Hs1 Hr He Hc Ho HO]
  · iapply (tile_core d i E X hX f0 O W fl)
    isplitl [Hmw]; · iexact Hmw
    isplitl [Hx]; · iexact Hx
    isplitl [Hl]; · iexact Hl
    isplitl [Ha]; · iexact Ha
    isplitl [Hs0]; · iexact Hs0
    isplitl [Hs1]; · iexact Hs1
    isplitl [Hr He Hc]
    · rw [Bares_eq]
      isplitl [Hr]; · iexact Hr
      isplitl [He]; · iexact He
      iexact Hc
    isplitl [Ho]; · iexact Ho
    iapply (Owe_start d i O W) $$ HO
  iintro %z ⟨Hx, Hl, Ha, Hs0, Hs1, HB, Ho, HO⟩
  ihave HB := (Entails.of_eq (Bares_eq d i E)) $$ HB
  icases HB with ⟨Hr, He, Hc⟩
  isplitl [Hx He Ho]
  · isplitl [Hx]; · iexact Hx
    isplitl [He]; · iapply (Entails.of_eq (table_split d i E).symm); iexact He
    iexact Ho
  isplitl [Hl Hr Ha Hbufs]
  · isplitl [Hl]; · iexact Hl
    isplitl [Hr]; · iapply (slots_join d i fr) $$ Hr
    isplitl [Ha]; · iexact Ha
    iexact Hbufs
  isplitl [Hc Hs0 Hs1 Hsems]
  · isplitr [Hsems]
    · iapply (cells_split d i).2
      isplitl [Hc]; · iexact Hc
      isplitl [Hs0]; · iexact Hs0
      iexact Hs1
    · iexact Hsems
  unfold Owe
  iexact HO

/-! ### The handshakes' payloads, the obligation, the split -/

def coordsV (c : Fin 2) (s : Fin 16) : grid0.Coords :=
  fun | 0 => c | 1 => s | ⟨_ + 2, h⟩ => absurd h (Nat.not_lt.2 (Nat.le_add_left _ _))

variable (E : Dev nD → S100000x128.Idx → F .f32) (X : Dev nD → S4096x4x50.Idx → BitVec 32) (f0 : Dev nD → S4096x128.Idx → F .f32)

abbrev goPts (d : Dev nD) (c : Fin 2) (s : Fin 16) : sProp 𝕄 := Handed d (coordsV c s) (E d) (X d) (f0 d)
abbrev tdPts (d : Dev nD) (c : Fin 2) (s : Fin 16) : sProp 𝕄 := Handed d (coordsV c s) (E d) (X d) (pooled (E d) (X d))

/-- A tile is handed its part of the arrays and hands it back with its rows pooled; a SparseCore, its sixteen tiles' parts. -/
def P : (K (F := F)).Pay (nD := nD) (Val := Elt F) (Name := ℕ) (U := UU) where
  st := fun q d c => match q with | 0 => bigSep Finset.univ fun s : Fin 16 => goPts E X f0 d (Fin.cast nCore_zero c) s
  dn := fun q d c => match q with | 0 => bigSep Finset.univ fun s : Fin 16 => tdPts E X d (Fin.cast nCore_zero c) s
  go := fun q d c i => match q with | 0 => goPts E X f0 d (Fin.cast nCore_zero c) (Fin.cast nSub_zero i)
  td := fun q d c i => match q with | 0 => tdPts E X d (Fin.cast nCore_zero c) (Fin.cast nSub_zero i)
  x := fun _ _ => iprop(emp)

/-- What the call hands over can be stored. -/
instance P_storable : (P E X f0).IsStorable where
  st q d c := match q with
    | 0 => (inferInstance : BI.Storable (upEmb : UEmb _ 𝕄) (bigSep Finset.univ fun s : Fin 16 => goPts E X f0 d (Fin.cast nCore_zero c) s))
  dn q d c := match q with
    | 0 => (inferInstance : BI.Storable (upEmb : UEmb _ 𝕄) (bigSep Finset.univ fun s : Fin 16 => tdPts E X d (Fin.cast nCore_zero c) s))
  go q d c i := match q with
    | 0 => (inferInstance : BI.Storable (upEmb : UEmb _ 𝕄) (goPts E X f0 d (Fin.cast nCore_zero c) (Fin.cast nSub_zero i)))
  td q d c i := match q with
    | 0 => (inferInstance : BI.Storable (upEmb : UEmb _ 𝕄) (tdPts E X d (Fin.cast nCore_zero c) (Fin.cast nSub_zero i)))

/-- The vector subcores run the kernel's body. -/
theorem defs₀_vector (c : Fin τ.nSC) (s : Fin τ.nSub) :
    defs₀ (F := F) (.scVector c s) 0 ()
      = SparseCore.onTile hcore0 hsub0 (fun c s => cc0_k (coordsV c s) xV (Memref.isWhole_whole _) eV (Memref.isWhole_whole _) oV (Memref.isWhole_whole _)
          lV (Memref.isWhole_whole _) rV (Memref.isWhole_whole _) aV (Memref.isWhole_whole _) cc0_scratch3 cc0_scratch4 cc0_scratch5 cc0_scratch6 cc0_scratch7 cc0_scratch8 cc0_scratch9 cc0_scratch10
          cc0_scoped0 cc0_scoped1) ⟨⟩ c s := rfl

/-- What a tile has waited on, stated as its obligation states it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl (hX : ∀ d x, (X d x).toNat < 100000) : (K (F := F)).TileObl (D (F := F)) 𝒱 (P E X f0) v₀ 0 := by
  intro d c i O W hO _ _
  simp only [show (P E X f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (E d) (X d) (hX d) (f0 d) O W hO).trans (wp_mono frame _ _ fun _ => obl_post)

/-- A core's share is its tiles' shares. -/
theorem vecSplit : (K (F := F)).VecSplit' (P E X f0) 0 := by
  intro d c
  show (bigSep Finset.univ fun s : Fin 16 => goPts E X f0 d (Fin.cast nCore_zero c) s) ⊢ |={Set.univ}=> iprop(
      (bigSep Finset.univ fun i : Fin 16 => goPts E X f0 d (Fin.cast nCore_zero c) i)
      ∗ ((bigSep Finset.univ fun i : Fin 16 => tdPts E X d (Fin.cast nCore_zero c) i)
        -∗ (bigSep Finset.univ fun s : Fin 16 => tdPts E X d (Fin.cast nCore_zero c) s)))
  iintro H; imodintro
  isplitl [H]; · iexact H
  iintro H; iexact H

end Body

end Cert.Proof.Lookup
-- ==== Proof.Arrays.lean ====
/-
  The whole arrays and the tiles' parts of them.
-/
module

public import proofs.«01_k».proof.Proof.Call

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tiles, numbered: SparseCore `c`'s subcore `s` is tile `2 s + c`. -/
def tileE : Fin 2 × Fin 16 ≃ Fin 32 where
  toFun p := ⟨2 * p.2.val + p.1.val, by omega⟩
  invFun w := (⟨w.val % 2, by omega⟩, ⟨w.val / 2, by omega⟩)
  left_inv p := Prod.ext (Fin.ext (show (2 * p.2.val + p.1.val) % 2 = p.1.val by omega)) (Fin.ext (show (2 * p.2.val + p.1.val) / 2 = p.2.val by omega))
  right_inv w := Fin.ext (show 2 * (w.val / 2) + w.val % 2 = w.val by omega)

abbrev tileAt (p : Fin 2 × Fin 16) : grid0.Coords := coordsV p.1 p.2

/-- The number of a tile. -/
theorem wid_tileAt (p : Fin 2 × Fin 16) : wid (tileAt p) = tileE p := rfl

/-- A tile's first row. -/
theorem base_tileAt (p : Fin 2 × Fin 16) : base (tileAt p) = 128 * (tileE p).val := by rw [base_wid, wid_tileAt]

/-- A tile's lists are those of its 128 rows. -/
theorem mem_xSet (i : grid0.Coords) (x : S4096x4x50.Idx) : x ∈ xSet i ↔ base i ≤ (x 0).val ∧ (x 0).val < base i + 128 := by
  have e : ∀ (y : S128x4x50.Idx) a, ((xRows i).view.emb y a).val = k0_off1 i a + 1 * (y a).val := fun y a => rfl
  rw [k0_off1_eq] at e
  have hb : 256 * (i 1).val + 128 * (i 0).val = base i := rfl
  unfold xSet
  constructor
  · intro hx
    obtain ⟨y, _, rfl⟩ := Finset.mem_map.mp hx
    have h0 : ((xRows i).view.emb y 0).val = 256 * (i 1).val + 128 * (i 0).val + 1 * (y 0).val := e y 0
    have hy : (y 0).val < 128 := (y 0).isLt
    omega
  · intro hx
    have hb' := base_le i
    refine Finset.mem_map.mpr ⟨ix3 (⟨(x 0).val - base i, by omega⟩ : Fin 128) (x 1) (x 2), Finset.mem_univ _, ?_⟩
    funext a
    match a with
    | ⟨0, _⟩ => exact Fin.ext ((e _ 0).trans (show 256 * (i 1).val + 128 * (i 0).val + 1 * ((x 0).val - base i) = (x 0).val by omega))
    | ⟨1, _⟩ => exact Fin.ext ((e _ 1).trans (show 0 + 1 * (x 1).val = (x 1).val by omega))
    | ⟨2, _⟩ => exact Fin.ext ((e _ 2).trans (show 0 + 1 * (x 2).val = (x 2).val by omega))

/-- A row is in a tile's range exactly when the tile's number is the row's number over 128. -/
theorem rows_tile (n : ℕ) (p : Fin 2 × Fin 16) : (base (tileAt p) ≤ n ∧ n < base (tileAt p) + 128) ↔ (tileE p).val = n / 128 := by
  rw [base_tileAt]; omega

/-- No list belongs to two tiles. -/
theorem xSet_disjoint : ∀ p p' : Fin 2 × Fin 16, p ≠ p' → Disjoint (xSet (tileAt p)) (xSet (tileAt p')) := fun p p' h =>
  Finset.disjoint_left.mpr fun x hx hx' => h (tileE.injective (Fin.ext
    (((rows_tile _ p).mp ((mem_xSet _ x).mp hx)).trans ((rows_tile _ p').mp ((mem_xSet _ x).mp hx')).symm)))

/-- Every list belongs to a tile. -/
theorem xSet_cover : (Finset.univ.biUnion fun p : Fin 2 × Fin 16 => xSet (tileAt p)) = Finset.univ :=
  Finset.eq_univ_iff_forall.mpr fun x => by
    have h : (x 0).val < 4096 := (x 0).isLt
    refine Finset.mem_biUnion.mpr ⟨tileE.symm ⟨(x 0).val / 128, by omega⟩, Finset.mem_univ _, (mem_xSet _ x).mpr ((rows_tile _ _).mpr ?_)⟩
    rw [Equiv.apply_symm_apply]

/-- No pooled row belongs to two tiles. -/
theorem oSet_disjoint : ∀ p p' : Fin 2 × Fin 16, p ≠ p' → Disjoint (oSet (tileAt p)) (oSet (tileAt p')) := fun p p' h =>
  Finset.disjoint_left.mpr fun x hx hx' => h (tileE.injective (Fin.ext
    (((rows_tile _ p).mp ((mem_oSet _ x).mp hx)).trans ((rows_tile _ p').mp ((mem_oSet _ x).mp hx')).symm)))

/-- Every pooled row belongs to a tile. -/
theorem oSet_cover : (Finset.univ.biUnion fun p : Fin 2 × Fin 16 => oSet (tileAt p)) = Finset.univ :=
  Finset.eq_univ_iff_forall.mpr fun x => by
    have h : (x 0).val < 4096 := (x 0).isLt
    refine Finset.mem_biUnion.mpr ⟨tileE.symm ⟨(x 0).val / 128, by omega⟩, Finset.mem_univ _, (mem_oSet _ x).mpr ((rows_tile _ _).mpr ?_)⟩
    rw [Equiv.apply_symm_apply]

section

variable (d : Dev nD)

/-- The lists are the tiles' lists. -/
theorem x_tiles (X : S4096x4x50.Idx → BitVec 32) :
    (xLoc d ↦{fullShare} X : sProp 𝕄) = bigSep Finset.univ fun p : Fin 2 × Fin 16 => xLoc d ↦[xSet (tileAt p)]{fullShare} X :=
  Ring.pointsTo_blocks (ℓ := xLoc d) (Val := Elt F) (fun p => xSet (tileAt p)) xSet_disjoint xSet_cover X

/-- The pooled rows are the tiles' pooled rows. -/
theorem o_tiles (f : S4096x128.Idx → F .f32) :
    (oLoc d ↦{fullShare} f : sProp 𝕄) = bigSep Finset.univ fun p : Fin 2 × Fin 16 => oLoc d ↦[oSet (tileAt p)]{fullShare} f :=
  Ring.pointsTo_blocks (ℓ := oLoc d) (Val := Elt F) (fun p => oSet (tileAt p)) oSet_disjoint oSet_cover f

/-- The table is shared by the tiles. -/
theorem e_tiles (E : S100000x128.Idx → F .f32) :
    (eLoc d ↦{fullShare} E : sProp 𝕄) = bigSep Finset.univ fun p : Fin 2 × Fin 16 => eLoc d ↦{eShare (tileAt p)} E := by
  have h : (eLoc d ↦{fullShare} E : sProp 𝕄) = bigSep Finset.univ fun w : Fin 32 => eLoc d ↦{pieceOf fullShare 32 (by decide) w} E := pointsTo_piecesOf _ _ _ _
  rw [h, bigSep_univ_equiv tileE]
  rfl

/-- The three arrays, held whole, are what the tiles are handed. -/
theorem handed_all (E : S100000x128.Idx → F .f32) (X : S4096x4x50.Idx → BitVec 32) (f : S4096x128.Idx → F .f32) :
    (iprop((xLoc d ↦{fullShare} X) ∗ (eLoc d ↦{fullShare} E) ∗ (oLoc d ↦{fullShare} f)) : sProp 𝕄)
      = bigSep Finset.univ fun c : Fin 2 => bigSep Finset.univ fun s : Fin 16 => Handed d (coordsV c s) E X f := by
  rw [x_tiles, e_tiles, o_tiles, ← bigSep_sep', ← bigSep_sep', bigSep_univ_prod]

end

end Cert.Proof.Lookup
-- ==== Proof.Region.lean ====
/-
  The TensorCore's region: the body of the multi-layer perceptron's pipelined call, its proof data and its entry from a valuation of the unscoped buffers.
-/
module

public import proofs.«01_k».proof.Proof.Base
public import proofs.«01_k».proof.Proof.Gen.KernelIdeal.Launch
public import proofs.«01_k».proof.Proof.Gen.KernelIdeal.Points
public import Idealize.ShloMosaic.Lib.Pipeline.Value
public import Idealize.ShloMosaic.Lib.Pipeline.RegionsLoop
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section
variable [FloatOps F] [Named F]

/-- Contents of a buffer of the TensorCore, and the buffer with them. -/
abbrev Bf (c : Dev nD) {sp : Space} {S : Shape} {e : EltTy} (M : Memref sig .tc sp S e) : Type := Buf (Elt F) (M.view.loc (T c : Thread nD τ))
abbrev pt (c : Dev nD) {sp : Space} {S : Shape} {e : EltTy} (M : Memref sig .tc sp S e) (f : Bf (F := F) c M) : sProp 𝕄 :=
  M.view.loc (T c : Thread nD τ) ↦{fullShare} f

/-- The offset of a whole-block access. -/
theorem zeros : (![0, 0] : Fin 2 → Nat) = fun _ => 0 := funext fun a => by fin_cases a <;> rfl

/-- Row `k` of the first layer's parameters. -/
abbrev row1 (p : Vec F S5x512 .f32) (k : Nat) (h : ∀ a, (![k, 0] : Fin 2 → Nat) a + S1x512.size a ≤ S5x512.size a) : Vec F S1x512 .f32 :=
  View.ld p (Rect.unit (s := S5x512) ![k, 0] S1x512.size h)
/-- Row `k` of the second layer's parameters. -/
abbrev row2 (p : Vec F S5x256 .f32) (k : Nat) (h : ∀ a, (![k, 0] : Fin 2 → Nat) a + S1x256.size a ≤ S5x256.size a) : Vec F S1x256 .f32 :=
  View.ld p (Rect.unit (s := S5x256) ![k, 0] S1x256.size h)

/-- What the body writes: the two normalised layers and the last linear one, of a block of pooled rows. -/
def mlp (x : Vec F S2048x128 .f32) (w1 : Vec F S128x512 .f32) (p1 : Vec F S5x512 .f32) (w2 : Vec F S512x256 .f32) (p2 : Vec F S5x256 .f32) (w3 : Vec F S256x11 .f32) (b3 : Vec F S1x11 .f32) : FVec F S2048x11 .f32 :=
  k1_pay1 (k1_pay2 x w1 (row1 p1 0 inb_S5x512_S1x512_0_0) (row1 p1 1 inb_S5x512_S1x512_1_0) (row1 p1 2 inb_S5x512_S1x512_2_0) (row1 p1 3 inb_S5x512_S1x512_3_0) (row1 p1 4 inb_S5x512_S1x512_4_0) w2)
    (k1_pay3 (row2 p2 0 inb_S5x256_S1x256_0_0)) (k1_pay4 (row2 p2 1 inb_S5x256_S1x256_1_0)) (row2 p2 2 inb_S5x256_S1x256_2_0) (row2 p2 3 inb_S5x256_S1x256_3_0) (row2 p2 4 inb_S5x256_S1x256_4_0) w3 b3

/-- The body of the region: from its blocks it leaves the layers of them in the result's block. -/
theorem body_run (c : Dev nD) (i : grid1.Coords) (arg1 : Memref sig .tc .vmem S2048x128 .f32) (harg1 : arg1.IsWhole) (arg2 : Memref sig .tc .vmem S128x512 .f32) (harg2 : arg2.IsWhole) (arg3 : Memref sig .tc .vmem S5x512 .f32) (harg3 : arg3.IsWhole) (arg4 : Memref sig .tc .vmem S512x256 .f32) (harg4 : arg4.IsWhole) (arg5 : Memref sig .tc .vmem S5x256 .f32) (harg5 : arg5.IsWhole) (arg6 : Memref sig .tc .vmem S256x11 .f32) (harg6 : arg6.IsWhole) (arg7 : Memref sig .tc .vmem S1x11 .f32) (harg7 : arg7.IsWhole) (arg8 : Memref sig .tc .vmem S2048x11 .f32) (harg8 : arg8.IsWhole)
  (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (Q : PUnit → sProp 𝕄) :
  iprop(pt c arg1 f1 ∗ pt c arg2 f2 ∗ pt c arg3 f3 ∗ pt c arg4 f4 ∗ pt c arg5 f5 ∗ pt c arg6 f6 ∗ pt c arg7 f7 ∗ pt c arg8 f8
     ∗ (iprop(pt c arg1 f1 ∗ pt c arg2 f2 ∗ pt c arg3 f3 ∗ pt c arg4 f4 ∗ pt c arg5 f5 ∗ pt c arg6 f6 ∗ pt c arg7 f7 ∗ (∃ W, ⌜arg8.view.read (Elt F) W = mlp (arg1.view.read (Elt F) f1) (arg2.view.read (Elt F) f2) (arg3.view.read (Elt F) f3) (arg4.view.read (Elt F) f4) (arg5.view.read (Elt F) f5) (arg6.view.read (Elt F) f6) (arg7.view.read (Elt F) f7)⌝ ∗ pt c arg8 W)) -∗ Q ⟨⟩))
   ⊢ wp frame (wpE (defs₀ (F := F)) 𝒱₀ (T c) none) Set.univ (cc1_body i arg1 harg1 arg2 harg2 arg3 harg3 arg4 harg4 arg5 harg5 arg6 harg6 arg7 harg7 arg8 harg8) Q := by
  iintro ⟨H1, H2, H3, H4, H5, H6, H7, H8, Hk⟩
  sl_exec!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _
  isplitr; swap; · iexact H8
  ipureintro
  unfold body_run.sl.H8_1
  funext y
  have hy : (Rect.unit (s := S2048x11) ![0, 0] S2048x11.size inb_S2048x11_S2048x11_0_0).emb y = y :=
    congrFun (View.ld_unit_zero (Val := fun _ => S2048x11.Idx) (e := .f32) zeros inb_S2048x11_S2048x11_0_0 (fun z => z)) y
  rw [View.read_writes_cons_hit _ _ _ _ _ y y hy]
  unfold body_run.sl.v59
  unfold mlp
  rw [← View.ld_unit_zero zeros inb_S2048x128_S2048x128_0_0 (View.read (Elt F) arg1.view f1),
    ← View.ld_unit_zero zeros inb_S128x512_S128x512_0_0 (View.read (Elt F) arg2.view f2),
    ← View.ld_unit_zero zeros inb_S512x256_S512x256_0_0 (View.read (Elt F) arg4.view f4),
    ← View.ld_unit_zero zeros inb_S256x11_S256x11_0_0 (View.read (Elt F) arg6.view f6),
    ← View.ld_unit_zero zeros inb_S1x11_S1x11_0_0 (View.read (Elt F) arg7.view f7)]
  rfl

/-- A whole memref held at contents `X`: its buffer held at something that reads `X`. -/
theorem owns_of_whole (c : Dev nD) {sp : Space} {S : Shape} {e : EltTy} (M : Memref sig .tc sp S e) (h : M.IsWhole) (X : S.Idx → Elt F e) :
    (owns (T c : Thread nD τ) M fullShare X : sProp 𝕄) = iprop(∃ f : Bf (F := F) c M, ⌜M.view.read (Elt F) f = X⌝ ∗ pt c M f) := by
  unfold owns; rw [h.set_eq_univ]

/-- The body over memrefs held at contents. -/
theorem body_owns (c : Dev nD) (i : grid1.Coords) (arg1 : Memref sig .tc .vmem S2048x128 .f32) (harg1 : arg1.IsWhole) (arg2 : Memref sig .tc .vmem S128x512 .f32) (harg2 : arg2.IsWhole) (arg3 : Memref sig .tc .vmem S5x512 .f32) (harg3 : arg3.IsWhole) (arg4 : Memref sig .tc .vmem S512x256 .f32) (harg4 : arg4.IsWhole) (arg5 : Memref sig .tc .vmem S5x256 .f32) (harg5 : arg5.IsWhole) (arg6 : Memref sig .tc .vmem S256x11 .f32) (harg6 : arg6.IsWhole) (arg7 : Memref sig .tc .vmem S1x11 .f32) (harg7 : arg7.IsWhole) (arg8 : Memref sig .tc .vmem S2048x11 .f32) (harg8 : arg8.IsWhole)
  (X1 : Vec F S2048x128 .f32) (X2 : Vec F S128x512 .f32) (X3 : Vec F S5x512 .f32) (X4 : Vec F S512x256 .f32) (X5 : Vec F S5x256 .f32) (X6 : Vec F S256x11 .f32) (X7 : Vec F S1x11 .f32) (X8 : Vec F S2048x11 .f32) (Q : PUnit → sProp 𝕄) :
  iprop(owns (T c : Thread nD τ) arg1 fullShare X1 ∗ owns (T c : Thread nD τ) arg2 fullShare X2 ∗ owns (T c : Thread nD τ) arg3 fullShare X3 ∗ owns (T c : Thread nD τ) arg4 fullShare X4 ∗ owns (T c : Thread nD τ) arg5 fullShare X5 ∗ owns (T c : Thread nD τ) arg6 fullShare X6 ∗ owns (T c : Thread nD τ) arg7 fullShare X7 ∗ owns (T c : Thread nD τ) arg8 fullShare X8
     ∗ (iprop(owns (T c : Thread nD τ) arg1 fullShare X1 ∗ owns (T c : Thread nD τ) arg2 fullShare X2 ∗ owns (T c : Thread nD τ) arg3 fullShare X3 ∗ owns (T c : Thread nD τ) arg4 fullShare X4 ∗ owns (T c : Thread nD τ) arg5 fullShare X5 ∗ owns (T c : Thread nD τ) arg6 fullShare X6 ∗ owns (T c : Thread nD τ) arg7 fullShare X7 ∗ owns (T c : Thread nD τ) arg8 fullShare (mlp X1 X2 X3 X4 X5 X6 X7)) -∗ Q ⟨⟩))
   ⊢ wp frame (wpE (defs₀ (F := F)) 𝒱₀ (T c) none) Set.univ (cc1_body i arg1 harg1 arg2 harg2 arg3 harg3 arg4 harg4 arg5 harg5 arg6 harg6 arg7 harg7 arg8 harg8) Q := by
  rw [owns_of_whole c arg1 harg1, owns_of_whole c arg2 harg2, owns_of_whole c arg3 harg3, owns_of_whole c arg4 harg4, owns_of_whole c arg5 harg5, owns_of_whole c arg6 harg6,
    owns_of_whole c arg7 harg7, owns_of_whole c arg8 harg8 X8, owns_of_whole c arg8 harg8 (mlp X1 X2 X3 X4 X5 X6 X7)]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, -, H8⟩, Hk⟩
  subst h1 h2 h3 h4 h5 h6 h7
  iapply (body_run c i arg1 harg1 arg2 harg2 arg3 harg3 arg4 harg4 arg5 harg5 arg6 harg6 arg7 harg7 arg8 harg8 f1 f2 f3 f4 f5 f6 f7 f8)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, ⟨%Y, %hY, H8⟩⟩
  iapply Hk
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexists Y; isplitr; · ipureintro; exact hY
  iexact H8

/-! ## The proof data, at an entry valuation -/

variable (W : (c : Dev nD) → (b : Ref sig .tc) → Buf (Elt F) ((T c : Thread nD τ).loc b))

/-- The block of window 0 at point `t`, read out of its array at the entry valuation. -/
abbrev blk0 (c : Dev nD) (t : Fin cfg1.N) : Vec F S2048x128 .f32 := ((cfg1.win 0).blk t).view.read (Elt F) (W c (Pipeline.arrRef spec1 0))
/-- The block of window 1 at point `t`, read out of its array at the entry valuation. -/
abbrev blk1 (c : Dev nD) (t : Fin cfg1.N) : Vec F S128x512 .f32 := ((cfg1.win 1).blk t).view.read (Elt F) (W c (Pipeline.arrRef spec1 1))
/-- The block of window 2 at point `t`, read out of its array at the entry valuation. -/
abbrev blk2 (c : Dev nD) (t : Fin cfg1.N) : Vec F S5x512 .f32 := ((cfg1.win 2).blk t).view.read (Elt F) (W c (Pipeline.arrRef spec1 2))
/-- The block of window 3 at point `t`, read out of its array at the entry valuation. -/
abbrev blk3 (c : Dev nD) (t : Fin cfg1.N) : Vec F S512x256 .f32 := ((cfg1.win 3).blk t).view.read (Elt F) (W c (Pipeline.arrRef spec1 3))
/-- The block of window 4 at point `t`, read out of its array at the entry valuation. -/
abbrev blk4 (c : Dev nD) (t : Fin cfg1.N) : Vec F S5x256 .f32 := ((cfg1.win 4).blk t).view.read (Elt F) (W c (Pipeline.arrRef spec1 4))
/-- The block of window 5 at point `t`, read out of its array at the entry valuation. -/
abbrev blk5 (c : Dev nD) (t : Fin cfg1.N) : Vec F S256x11 .f32 := ((cfg1.win 5).blk t).view.read (Elt F) (W c (Pipeline.arrRef spec1 5))
/-- The block of window 6 at point `t`, read out of its array at the entry valuation. -/
abbrev blk6 (c : Dev nD) (t : Fin cfg1.N) : Vec F S1x11 .f32 := ((cfg1.win 6).blk t).view.read (Elt F) (W c (Pipeline.arrRef spec1 6))

/-- What the body leaves in the result's staging buffer at point `t`. -/
abbrev outV (c : Dev nD) (t : Fin cfg1.N) : Vec F S2048x11 .f32 :=
  mlp (blk0 W c t) (blk1 W c t) (blk2 W c t) (blk3 W c t) (blk4 W c t) (blk5 W c t) (blk6 W c t)

/-- The proof data: the arrays at the valuation, every input's staging buffer left as fetched and the result's at the
    layers' value; nothing owed, the recorded waits those of the SparseCore call. -/
def dat (c : Dev nD) : Pipeline.Dat τ (Elt F) (HIx 1) ℕ UU ℕ cfg1 c where
  A w := W c (Pipeline.arrRef spec1 w)
  after w t := match w with
    | ⟨0, _⟩ => blk0 W c t
    | ⟨1, _⟩ => blk1 W c t
    | ⟨2, _⟩ => blk2 W c t
    | ⟨3, _⟩ => blk3 W c t
    | ⟨4, _⟩ => blk4 W c t
    | ⟨5, _⟩ => blk5 W c t
    | ⟨6, _⟩ => blk6 W c t
    | ⟨7, _⟩ => outV W c t
  Φ _ := BI.emp
  q _ := fullShare
  owed _ := 0
  recorded _ := {p | (K (F := F)).lev ((T c : Thread nD τ), p.1) p.2 ≤ 8}

/-- The region is admissible. -/
abbrev adm : (p : Fin 1) → (pcfgs (F := F) p).Adm := fun p => (cfgs p).toPCfg_adm

/-- The family of proof data: one pipeline. -/
def pdats : (p : Fin 1) → (c : Dev nD) → Pipeline.Dat τ (Elt F) (HIx 1) ℕ UU ℕ (Pipeline.pin (pcfgs (F := F)) adm p) c
  | ⟨0, _⟩ => fun c => dat W c

/-- What the body finds in each window is that window's block. -/
theorem before_0 (c : Dev nD) (t : Fin cfg1.N) (d) : (dat W c).before 0 t d = blk0 W c t :=
  (dat W c).before_in_eq_fetched 0 rfl (fun _ => rfl) (fun _ _ _ => rfl) (fun _ => rfl) t d
theorem before_1 (c : Dev nD) (t : Fin cfg1.N) (d) : (dat W c).before 1 t d = blk1 W c t :=
  (dat W c).before_in_eq_fetched 1 rfl (fun _ => rfl) (fun _ _ _ => rfl) (fun _ => rfl) t d
theorem before_2 (c : Dev nD) (t : Fin cfg1.N) (d) : (dat W c).before 2 t d = blk2 W c t :=
  (dat W c).before_in_eq_fetched 2 rfl (fun _ => rfl) (fun _ _ _ => rfl) (fun _ => rfl) t d
theorem before_3 (c : Dev nD) (t : Fin cfg1.N) (d) : (dat W c).before 3 t d = blk3 W c t :=
  (dat W c).before_in_eq_fetched 3 rfl (fun _ => rfl) (fun _ _ _ => rfl) (fun _ => rfl) t d
theorem before_4 (c : Dev nD) (t : Fin cfg1.N) (d) : (dat W c).before 4 t d = blk4 W c t :=
  (dat W c).before_in_eq_fetched 4 rfl (fun _ => rfl) (fun _ _ _ => rfl) (fun _ => rfl) t d
theorem before_5 (c : Dev nD) (t : Fin cfg1.N) (d) : (dat W c).before 5 t d = blk5 W c t :=
  (dat W c).before_in_eq_fetched 5 rfl (fun _ => rfl) (fun _ _ _ => rfl) (fun _ => rfl) t d
theorem before_6 (c : Dev nD) (t : Fin cfg1.N) (d) : (dat W c).before 6 t d = blk6 W c t :=
  (dat W c).before_in_eq_fetched 6 rfl (fun _ => rfl) (fun _ _ _ => rfl) (fun _ => rfl) t d

/-- The body's obligation at each of the two grid points. -/
theorem body_obligation (c : Dev nD) : Pipeline.BodyObligation (dat W c) (defs₀ (F := F)) 𝒱₀ (none : HIx 1) Set.univ := fun t => by
  rw [bigSep_W1, bigSep_W1]
  show _ ⊢ wp frame _ Set.univ (bodyAt1 t) _
  rw [show (dat W c).Φ t.castSucc = BI.emp from rfl, show (dat W c).Φ t.succ = BI.emp from rfl,
    show (dat W c).owesAt none t.succ = (dat W c).owesAt none t.castSucc from rfl]
  simp only [before_0, before_1, before_2, before_3, before_4, before_5, before_6]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6))
    (st1_7 t) (hstage1_7 ((cfg1.slots t 7).cast nbuf1_7)) (blk0 W c t) (blk1 W c t) (blk2 W c t) (blk3 W c t) (blk4 W c t) (blk5 W c t) (blk6 W c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region over the thread state -/

/-- What the TensorCore owes around the region: nothing, its recorded waits below the next call's. -/
def owesB (c : Dev nD) : sProp 𝕄 :=
  iprop(∃ B, ⌜(K (F := F)).WBelow (T c : Thread nD τ) B 8⌝ ∗ owes (T c : Thread nD τ) (0 : CellTallies nD τ sig (HIx 1)) B)

/-- The result's array after the region. -/
def outArr (c : Dev nD) : Buf (Elt F) ((T c : Thread nD τ).loc main_v15) := (dat W c).arrAt 7 cfg1.N

variable (Wp : (c : Dev nD) → (b : Ref sig .tc) → Buf (Elt F) ((T c : Thread nD τ).loc b))

set_option backward.isDefEq.respectTransparency.types false in
/-- The region: entered by splitting the eight arrays out of the unscoped buffers, left with them put back. -/
def reg (hout : ∀ c, Wp c main_v15 = outArr W c) (hne : ∀ c (b : Ref sig .tc), b ≠ main_v15 → Wp c b = W c b) :
    Pipeline.RegionSeg (pcfgs (F := F)) adm (pdats W) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ owesB c)
  post c := iprop(unscopedBufs c (Wp c) ∗ owesB c)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) launch1.win launch1.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesB
      icases HO with ⟨%B, %hB, HO⟩; iexists B; isplitr; · ipureintro; exact fun p hp => Or.inl (hB p hp)
      iexact HO
    isplitr; · iempintro
    iexact Hrest
  hin c := by
    rw [show (pdats W 0 c).Φ 0 = BI.emp from rfl]
    iintro -; iempintro
  hout c := by
    rw [Pipeline.ownSems0_none]
    iintro -
    isplitr; · iempintro
    isplitr; · iempintro
    iapply (show (BI.emp : sProp 𝕄) ⊢ Pipeline.scopedRest (Ix := HIx 1) (Name := ℕ) (U := UU) (Lvl := ℕ) (Val := Elt F) spec1 c from
      Entails.of_eq (scopedRest1_eq c).symm)
    iempintro
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (W c) (Wp c) ((pdats W 0 c).arrAt · cfg1.N)
      (fun w => by
        fin_cases w
        · exact ((pdats W 0 c).arrAt_in 0 rfl _).trans (hne c main_v1 (by decide)).symm
        · exact ((pdats W 0 c).arrAt_in 1 rfl _).trans (hne c main_arg2 (by decide)).symm
        · exact ((pdats W 0 c).arrAt_in 2 rfl _).trans (hne c main_v7 (by decide)).symm
        · exact ((pdats W 0 c).arrAt_in 3 rfl _).trans (hne c main_arg8 (by decide)).symm
        · exact ((pdats W 0 c).arrAt_in 4 rfl _).trans (hne c main_v13 (by decide)).symm
        · exact ((pdats W 0 c).arrAt_in 5 rfl _).trans (hne c main_arg14 (by decide)).symm
        · exact ((pdats W 0 c).arrAt_in 6 rfl _).trans (hne c main_v14 (by decide)).symm
        · exact (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin owesB
    icases HO with ⟨%B, %hB, HO⟩; iexists B; isplitr
    · ipureintro
      intro p hp
      rcases hB hp with h | ⟨w, s, h⟩
      · exact h
      · rw [h]; exact Nat.zero_le _
    iexact HO

end
end Cert.Proof.Lookup
-- ==== Proof.Host.lean ====
/-
  The contents of every array on a device as the host program goes: at the launch, after the reshape of the indices, after the
  SparseCore call, after the operations that lay out the parameters of the two normalisations, and after the TensorCore region.
-/
module

public import proofs.«01_k».proof.Proof.Arrays
public import proofs.«01_k».proof.Proof.Region
public import Idealize.ShloMosaic.Lib.StableHlo.Run
public import Idealize.ShloMosaic.Lib.StableHlo.RunRead

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after)
open Idealize.ShloMosaic.TcCoe

/-- The arrays on a device that no kernel scopes. -/
def plainRefs : Finset (DevRef τ sig) := (StableHlo.tcRefs τ sig).filter fun b => ¬ b.isScoped

/-- A reference that no kernel scopes is one of them. -/
theorem mem_plainRefs (b : Ref sig .tc) (h : (Proc.devRef (τ := τ) .tc b).isScoped = false) : (Proc.devRef .tc b : DevRef τ sig) ∈ plainRefs :=
  Finset.mem_filter.mpr ⟨StableHlo.devRef_mem_tcRefs b, fun h' => Bool.false_ne_true (h.symm.trans h')⟩

/-- The unscoped buffers of a device are those arrays, held. -/
theorem unscoped_held (d : Dev nD) (W : Valuation τ sig (Elt F)) :
    (unscopedBufs d (fun b => W (Proc.devRef .tc b)) : sProp 𝕄) = held (T d : Thread nD τ) plainRefs W := by
  unfold unscopedBufs held plainRefs StableHlo.tcRefs
  rw [Finset.filter_map, bigSep_map]
  rfl

/-- A host operation touches only those arrays. -/
theorem op_sub (op : HloOp τ sig (Elt F)) (h : op.bufs ⊆ StableHlo.tcRefs τ sig) : op.bufs ⊆ plainRefs := fun b hb =>
  Finset.mem_filter.mpr ⟨h hb, fun h' => Bool.false_ne_true ((op.no_scoped b hb).symm.trans h')⟩

/-- The three arrays of the SparseCore call, and the others. -/
def callRefs : Finset (DevRef τ sig) := {(main_v0 : DevRef τ sig), (main_arg1 : DevRef τ sig), (main_v1 : DevRef τ sig)}

/-- No kernel scopes the call's arrays. -/
theorem callRefs_sub : callRefs ⊆ plainRefs := by
  intro b hb
  simp only [callRefs, Finset.mem_insert, Finset.mem_singleton] at hb
  rcases hb with rfl | rfl | rfl <;> exact mem_plainRefs _ rfl

/-- Distinct references are distinct on a device. -/
theorem ref_ne {a b : Ref sig .tc} (h : a ≠ b) : (Proc.devRef .tc a : DevRef τ sig) ≠ Proc.devRef .tc b := fun h' => h (Proc.devRef_injective _ h')

/-- The arrays held: the three of the call, and the others. -/
theorem held_call (d : Dev nD) (W : Valuation τ sig (Elt F)) :
    (held (T d : Thread nD τ) plainRefs W : sProp 𝕄)
      = iprop(((xLoc d ↦{fullShare} (W main_v0 : Buf (Elt F) (xLoc d))) ∗ (eLoc d ↦{fullShare} (W main_arg1 : Buf (Elt F) (eLoc d)))
          ∗ (oLoc d ↦{fullShare} (W main_v1 : Buf (Elt F) (oLoc d)))) ∗ held (T d : Thread nD τ) (plainRefs \ callRefs) W) := by
  rw [StableHlo.held_sub_split _ callRefs_sub]
  congr 1
  unfold held callRefs
  rw [SparseCore.bigSep_insert', SparseCore.bigSep_insert', bigSep_singleton]
  · rw [Finset.mem_singleton]; exact ref_ne (by decide)
  · rw [Finset.mem_insert, Finset.mem_singleton, not_or]; exact ⟨ref_ne (by decide), ref_ne (by decide)⟩

section

variable [FloatOps F] [Named F]

/-- The operation before the SparseCore call. -/
abbrev op0 : HloOp τ sig (Elt F) := StableHlo.reshape main_arg0 main_v0 (rfl : (.i32 : EltTy) = .i32) shapeCasts_S4096x200_S4096x4x50

/-- The operations between the two calls. -/
abbrev ops : List (HloOp τ sig (Elt F)) :=
  [ StableHlo.unary main_arg3 main_v2 (broadcastInDim S1x512 ![1] bcast_S512_S1x512_1 : (⟨S512, .f32⟩ : BufTy).Contents (Elt F) → (⟨S1x512, .f32⟩ : BufTy).Contents (Elt F)),
    StableHlo.unary main_arg4 main_v3 (broadcastInDim S1x512 ![1] bcast_S512_S1x512_1 : (⟨S512, .f32⟩ : BufTy).Contents (Elt F) → (⟨S1x512, .f32⟩ : BufTy).Contents (Elt F)),
    StableHlo.unary main_arg5 main_v4 (broadcastInDim S1x512 ![1] bcast_S512_S1x512_1 : (⟨S512, .f32⟩ : BufTy).Contents (Elt F) → (⟨S1x512, .f32⟩ : BufTy).Contents (Elt F)),
    StableHlo.unary main_arg6 main_v5 (broadcastInDim S1x512 ![1] bcast_S512_S1x512_1 : (⟨S512, .f32⟩ : BufTy).Contents (Elt F) → (⟨S1x512, .f32⟩ : BufTy).Contents (Elt F)),
    StableHlo.unary main_arg7 main_v6 (broadcastInDim S1x512 ![1] bcast_S512_S1x512_1 : (⟨S512, .f32⟩ : BufTy).Contents (Elt F) → (⟨S1x512, .f32⟩ : BufTy).Contents (Elt F)),
    StableHlo.nary ![main_v2, main_v3, main_v4, main_v5, main_v6] main_v7 (fun u => (concatenate S5x512 0 [⟨S1x512, (u 0 : (⟨S1x512, .f32⟩ : BufTy).Contents (Elt F))⟩, ⟨S1x512, (u 1 : (⟨S1x512, .f32⟩ : BufTy).Contents (Elt F))⟩, ⟨S1x512, (u 2 : (⟨S1x512, .f32⟩ : BufTy).Contents (Elt F))⟩, ⟨S1x512, (u 3 : (⟨S1x512, .f32⟩ : BufTy).Contents (Elt F))⟩, ⟨S1x512, (u 4 : (⟨S1x512, .f32⟩ : BufTy).Contents (Elt F))⟩] concatenates_S1x512_S1x512_S1x512_S1x512_S1x512_S5x512_d0 : (⟨S5x512, .f32⟩ : BufTy).Contents (Elt F))),
    StableHlo.unary main_arg9 main_v8 (broadcastInDim S1x256 ![1] bcast_S256_S1x256_1 : (⟨S256, .f32⟩ : BufTy).Contents (Elt F) → (⟨S1x256, .f32⟩ : BufTy).Contents (Elt F)),
    StableHlo.unary main_arg10 main_v9 (broadcastInDim S1x256 ![1] bcast_S256_S1x256_1 : (⟨S256, .f32⟩ : BufTy).Contents (Elt F) → (⟨S1x256, .f32⟩ : BufTy).Contents (Elt F)),
    StableHlo.unary main_arg11 main_v10 (broadcastInDim S1x256 ![1] bcast_S256_S1x256_1 : (⟨S256, .f32⟩ : BufTy).Contents (Elt F) → (⟨S1x256, .f32⟩ : BufTy).Contents (Elt F)),
    StableHlo.unary main_arg12 main_v11 (broadcastInDim S1x256 ![1] bcast_S256_S1x256_1 : (⟨S256, .f32⟩ : BufTy).Contents (Elt F) → (⟨S1x256, .f32⟩ : BufTy).Contents (Elt F)),
    StableHlo.unary main_arg13 main_v12 (broadcastInDim S1x256 ![1] bcast_S256_S1x256_1 : (⟨S256, .f32⟩ : BufTy).Contents (Elt F) → (⟨S1x256, .f32⟩ : BufTy).Contents (Elt F)),
    StableHlo.nary ![main_v8, main_v9, main_v10, main_v11, main_v12] main_v13 (fun u => (concatenate S5x256 0 [⟨S1x256, (u 0 : (⟨S1x256, .f32⟩ : BufTy).Contents (Elt F))⟩, ⟨S1x256, (u 1 : (⟨S1x256, .f32⟩ : BufTy).Contents (Elt F))⟩, ⟨S1x256, (u 2 : (⟨S1x256, .f32⟩ : BufTy).Contents (Elt F))⟩, ⟨S1x256, (u 3 : (⟨S1x256, .f32⟩ : BufTy).Contents (Elt F))⟩, ⟨S1x256, (u 4 : (⟨S1x256, .f32⟩ : BufTy).Contents (Elt F))⟩] concatenates_S1x256_S1x256_S1x256_S1x256_S1x256_S5x256_d0 : (⟨S5x256, .f32⟩ : BufTy).Contents (Elt F))),
    StableHlo.reshape main_arg15 main_v14 (rfl : (.f32 : EltTy) = .f32) shapeCasts_S11_S1x11 ]

/-- The operations touch only arrays that no kernel scopes. -/
theorem ops_sub : ∀ op ∈ (ops : List (HloOp τ sig (Elt F))), op.bufs ⊆ plainRefs := by
  intro op h
  refine op_sub op ?_
  fin_cases h
  all_goals first
    | exact StableHlo.unary_bufs_sub ..
    | exact StableHlo.nary_bufs_sub ..
    | exact StableHlo.reshape_bufs_sub ..

/-- The operations allocate nothing. -/
theorem ops_fresh : ∀ op ∈ (ops : List (HloOp τ sig (Elt F))), op.fresh = ∅ := by
  intro op h; fin_cases h <;> rfl

variable (m : (ℓ : Loc nD τ sig) → Buf (Elt F) ℓ)

/-- At the launch. -/
def val0 (d : Dev nD) : Valuation τ sig (Elt F) := fun b => m (d, b)
/-- After the reshape of the indices. -/
def val1 (d : Dev nD) : Valuation τ sig (Elt F) := op0.result (val0 m d)
/-- The table and the indices the SparseCore call reads, and what its result's array holds before. -/
def Et (d : Dev nD) : S100000x128.Idx → F .f32 := val1 m d main_arg1
def Xt (d : Dev nD) : S4096x4x50.Idx → BitVec 32 := val1 m d main_v0
def Ot (d : Dev nD) : S4096x128.Idx → F .f32 := val1 m d main_v1
/-- After the SparseCore call. -/
def val2 (d : Dev nD) : Valuation τ sig (Elt F) := Function.update (val1 m d) (main_v1 : DevRef τ sig) (pooled (Et m d) (Xt m d))
/-- After the layout of the parameters. -/
def val3 (d : Dev nD) : Valuation τ sig (Elt F) := after ops (val2 m d)
/-- What the region finds, by reference. -/
def regIn (d : Dev nD) (b : Ref sig .tc) : Buf (Elt F) ((T d : Thread nD τ).loc b) := val3 m d (Proc.devRef .tc b)
/-- After the region. -/
def val4 (d : Dev nD) : Valuation τ sig (Elt F) := Function.update (val3 m d) (main_v15 : DevRef τ sig) (outArr (regIn m) d)

/-- The call writes only the pooled rows. -/
theorem val2_of_ne (d : Dev nD) {b : DevRef τ sig} (h : b ≠ (main_v1 : DevRef τ sig)) : val2 m d b = val1 m d b := Function.update_of_ne h _ _

/-- The arrays after the call: the three of the call, and the others as before. -/
theorem held_val2 (d : Dev nD) :
    (held (T d : Thread nD τ) plainRefs (val2 m d) : sProp 𝕄)
      = iprop(((xLoc d ↦{fullShare} Xt m d) ∗ (eLoc d ↦{fullShare} Et m d) ∗ (oLoc d ↦{fullShare} pooled (Et m d) (Xt m d)))
          ∗ held (T d : Thread nD τ) (plainRefs \ callRefs) (val1 m d)) := by
  have h : (held (T d : Thread nD τ) (plainRefs \ callRefs) (val2 m d) : sProp 𝕄) = held (T d : Thread nD τ) (plainRefs \ callRefs) (val1 m d) :=
    StableHlo.held_congr _ fun b hb => val2_of_ne m d fun e => (Finset.mem_sdiff.mp hb).2 (e ▸ by simp [callRefs])
  have h0 : val2 m d (main_v0 : DevRef τ sig) = val1 m d (main_v0 : DevRef τ sig) := val2_of_ne m d (ref_ne (by decide))
  have h1 : val2 m d (main_arg1 : DevRef τ sig) = val1 m d (main_arg1 : DevRef τ sig) := val2_of_ne m d (ref_ne (by decide))
  have h2 : val2 m d (main_v1 : DevRef τ sig) = pooled (Et m d) (Xt m d) := Function.update_self ..
  rw [held_call, h, h0, h1, h2]
  rfl

/-- At the end the result is what the region leaves. -/
theorem regIn_out (d : Dev nD) : val4 m d (main_v15 : DevRef τ sig) = outArr (regIn m) d := Function.update_self ..

/-- The region writes only the result. -/
theorem val4_of_ne (d : Dev nD) {b : Ref sig .tc} (h : b ≠ main_v15) : val4 m d (Proc.devRef .tc b) = regIn m d b :=
  Function.update_of_ne (ref_ne h) _ _

end

end Cert.Proof.Lookup
-- ==== Proof.Launch.lean ====
/-
  The launch: @main on the TensorCore from the arrays as the launch holds them to the arrays as the program leaves them, the ghost
  state the launch deals, and the run of the whole program.
-/
module

public import proofs.«01_k».proof.Proof.Host
public import Idealize.ShloMosaic.Lib.SparseCore.Quiescent

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after)
open Idealize.ShloMosaic.TcCoe

section

variable [FloatOps F] [Named F]

/-- What the launch deals a TensorCore for the region's own transfers. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The ghost state of the launch: the handshakes' of the SparseCore call and the region's. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The region's cells and duties, over all devices and regions. -/
theorem G_all : (iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => Pipeline.toksInit (Pipeline.pin (pcfgs (F := F)) adm) EP p c)) : sProp 𝕄)
    = bigSep Finset.univ (G (F := F)) := by
  rw [← bigSep_sep']
  refine bigSep_congr fun c _ => ?_
  unfold G
  rw [bigSep_univ_of_subsingleton (0 : Fin 1), bigSep_univ_of_subsingleton (0 : Fin 1)]

variable (m : (ℓ : Loc nD τ sig) → Buf (Elt F) ℓ) (ρ : Dev nD → PrngReg)

/-- The payloads of the SparseCore call at the contents the program reaches it with. -/
abbrev Pm := P (F := F) (Et m) (Xt m) (Ot m)

/-- Nothing, any number of times. -/
theorem emps {I : Type} (s : Finset I) : (bigSep s fun _ => iprop(emp)) = (iprop(emp) : sProp 𝕄) := bigSep_emp_const s

/-- The initial ghost state gives what the proof begins with. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (Pm m).x q thr) := by
  unfold u₀
  iintro Hu
  ihave H := (ownU_pair _ _) $$ Hu
  icases H with ⟨HH, HR⟩
  ihave H := (own_pair_emb _ _ _) $$ HR
  icases H with ⟨HP, -⟩
  ihave HP := (Entails.of_eq (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj)
        (Pipeline.launchToks (Pipeline.pin (pcfgs (F := F)) adm) cellOf_inj))) from rfl)) $$ HP
  imod (Pipeline.fund_ghost (Pipeline.pin (pcfgs (F := F)) adm) EP cellOf_inj) $$ HP with HG
  imodintro
  isplitl [HH]; · iexact HH
  isplitl [HG]
  · rw [← G_all]; iexact HG
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), emps]
  iempintro

/-- What the call is handed, gathered over the cores. -/
theorem st_eq (d : Dev nD) : (bigSep Finset.univ fun c : Fin ((K (F := F)).nCore 0) => (Pm m).st 0 d c)
    = iprop((xLoc d ↦{fullShare} Xt m d) ∗ (eLoc d ↦{fullShare} Et m d) ∗ (oLoc d ↦{fullShare} Ot m d) : sProp 𝕄) := by
  rw [handed_all]; rfl

/-- What the call hands back, gathered over the cores. -/
theorem dn_eq (d : Dev nD) : (bigSep Finset.univ fun c : Fin ((K (F := F)).nCore 0) => (Pm m).dn 0 d c)
    = iprop((xLoc d ↦{fullShare} Xt m d) ∗ (eLoc d ↦{fullShare} Et m d) ∗ (oLoc d ↦{fullShare} pooled (Et m d) (Xt m d)) : sProp 𝕄) := by
  rw [handed_all]; rfl

/-- What a device ends with: every array that no kernel scopes, at the program's last valuation. -/
abbrev FIN (d : Dev nD) : sProp 𝕄 := held (T d : Thread nD τ) plainRefs (val4 m d)

/-- The region's data at the contents the program reaches it with. -/
abbrev regM : Pipeline.RegionSeg (pcfgs (F := F)) adm (pdats (regIn m)) (none : HIx 1) defs₀ 𝒱₀ (K (F := F)).L (K (F := F)).lev 0 :=
  reg (regIn m) (fun c b => val4 m c (Proc.devRef .tc b)) (fun c => regIn_out m c) (fun c _ h => val4_of_ne m c h)

/-- After the one call the TensorCore owes nothing. -/
theorem Otc_one (d : Dev nD) : (K (F := F)).Otc (nD := nD) d 1 = 0 := by
  unfold SparseCore.Cfg.Otc
  simp

/-- What the TensorCore holds between the calls: what it owes, and the handshakes' positions. -/
theorem tcSt_one (d : Dev nD) : ∃ R : sProp 𝕄, ((K (F := F)).tcSt EH d 1 : sProp 𝕄) = iprop(owesB d ∗ R) :=
  ⟨_, by unfold SparseCore.Cfg.tcSt; rw [Otc_one]; rfl⟩

/-- @main: the reshape, the SparseCore call, the line of operations and the region's call. -/
theorem main_text (d : Dev nD) : main (F := F) d
    = ((hlo rfl op0 fun _ => .ret ⟨⟩) >>= fun _ : PUnit => sc.run d 0 >>= fun _ : PUnit =>
        (StableHlo.seq ops >>= fun _ : PUnit => SparseCore.liftProg (.op (.customCall (Pipeline.entry 0) ()) fun _ => .ret ⟨⟩))) := rfl

/-- The region's call, with everything it asks for. -/
theorem region_wp (d : Dev nD) (Q : PUnit → sProp 𝕄) :
    (iprop((boundary (T d) ∗ held (T d : Thread nD τ) plainRefs (val4 m d) ∗ owesB d -∗ Q ⟨⟩)
        ∗ boundary (T d) ∗ held (T d : Thread nD τ) plainRefs (val3 m d) ∗ owesB d ∗ levAts (K (F := F)).L (K (F := F)).lev ∗ G d) : sProp 𝕄)
      ⊢ wp frame (wpE ((K (F := F)).defs (D (F := F))) 𝒱 (T d) none) Set.univ
          (SparseCore.liftProg (.op (.customCall (Pipeline.entry 0) ()) fun _ => .ret ⟨⟩)) Q := by
  refine BIBase.Entails.trans ?_ ((K (F := F)).wp_liftProg (D (F := F)) 𝒱 (T d) Set.univ none _ _)
  refine BIBase.Entails.trans ?_ (Pipeline.RegionSeg.wp (pcfgs (F := F)) adm (pdats (regIn m)) (none : HIx 1) cellOf_inj EP defs₀ 𝒱₀ (K (F := F)).L (K (F := F)).lev
    (regM m) d none nofun _ Q)
  have hpost : ((regM m).post d : sProp 𝕄) = iprop(unscopedBufs d (fun b => val4 m d (Proc.devRef .tc b)) ∗ owesB d) := rfl
  have hpre : ((regM m).pre d : sProp 𝕄) = iprop(unscopedBufs d (fun b => val3 m d (Proc.devRef .tc b)) ∗ owesB d) := rfl
  rw [hpost, hpre, unscoped_held, unscoped_held]
  unfold G
  iintro ⟨HQ, Hb, Hh, Ho, Hl, Hc, Ht⟩
  isplitl [HQ]
  · iintro ⟨Hb, Hh, Ho⟩
    rw [wp_ret]; imodintro
    iapply HQ
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  isplitl [Hc]; · iexact Hc
  iexact Ht

/-- The arrays held when the call is made: the three it is handed, and the others. -/
theorem hcall (d : Dev nD) : (held (T d : Thread nD τ) plainRefs (op0.result (val0 m d)) : sProp 𝕄)
      = iprop(((xLoc d ↦{fullShare} Xt m d) ∗ (eLoc d ↦{fullShare} Et m d) ∗ (oLoc d ↦{fullShare} Ot m d))
          ∗ held (T d : Thread nD τ) (plainRefs \ callRefs) (val1 m d)) := held_call d (val1 m d)

set_option backward.isDefEq.respectTransparency.types false in
/-- @main on device `d`'s TensorCore. -/
theorem hmain (κ : GSem nD τ sig → ℕ) (d : Dev nD) :
    (iprop((K (F := F)).ctx EH (Pm m) κ ∗ (K (F := F)).tcSt EH d 0 ∗ (K (F := F)).tcRes m ρ d ∗ G d) : sProp 𝕄)
      ⊢ wp frame (wpE ((K (F := F)).defs (D (F := F))) 𝒱 (T d) none) Set.univ (main d)
          fun _ => iprop((K (F := F)).tcSt EH d 1 ∗ FIN m d ∗ (K (F := F)).tcEnd d) := by
  have hU : (unscopedBufs d (fun b => m ((T d : Thread nD τ).loc b)) : sProp 𝕄) = held (T d : Thread nD τ) plainRefs (val0 m d) := unscoped_held d (val0 m d)
  unfold SparseCore.Cfg.tcRes SparseCore.Cfg.tcEnd
  rw [hU]
  iintro ⟨#Hctx, Hst, ⟨Hb, Hh, Hts, -⟩, HG⟩
  obtain ⟨R, hR⟩ := tcSt_one (F := F) d
  have hR0 : ((K (F := F)).tcSt EH d ((0 : Fin 1).val + 1) : sProp 𝕄) = iprop(owesB d ∗ R) := hR
  rw [main_text, wp_bind]
  iapply (StableHlo.wp_hlo_within 𝒱 (T d) none Set.univ (op := op0) (op_sub op0 (StableHlo.reshape_bufs_sub ..)) (V := val0 m d)) $$ [Hb Hh]
  · isplitl [Hb]; · iexact Hb
    iexact Hh
  iintro ⟨Hb, Hh⟩
  rw [wp_ret]; imodintro
  rw [wp_bind]
  ihave Hh' := (Entails.of_eq (hcall m d)) $$ Hh
  icases Hh' with ⟨Harr, Hrest⟩
  iapply ((K (F := F)).wp_run (D (F := F)) 𝒱 (EH := EH) (P := Pm m) κ d 0) $$ [-]
  isplitr; · iexact Hctx
  isplitl [Hst]; · iexact Hst
  isplitl [Harr]
  · rw [st_eq]; iexact Harr
  iintro ⟨Hst, Hdn⟩
  ihave Hdn' := (Entails.of_eq (dn_eq m d)) $$ Hdn
  ihave Hh : iprop(held (T d : Thread nD τ) plainRefs (val2 m d)) $$ [Hdn' Hrest]
  · rw [held_val2]
    isplitl [Hdn']; · iexact Hdn'
    iexact Hrest
  iapply (StableHlo.wp_seq 𝒱 none Set.univ d plainRefs (fun _ => SparseCore.liftProg (.op (.customCall (Pipeline.entry 0) ()) fun _ => .ret ⟨⟩))
    ops ops_sub ops_fresh (val2 m d)) $$ [Hb Hh]
  · isplitl [Hb]; · iexact Hb
    iexact Hh
  iintro ⟨Hb, Hh⟩
  iapply (region_wp m d) $$ [-]
  ihave Hst' := (Entails.of_eq hR0) $$ Hst
  icases Hst' with ⟨Ho, Htc⟩
  isplitl [Htc Hts]
  · iintro ⟨Hb, Hh, Ho⟩
    isplitl [Ho Htc]
    · iapply (Entails.of_eq hR.symm)
      isplitl [Ho]; · iexact Ho
      iexact Htc
    isplitl [Hh]; · iexact Hh
    isplitl [Hb]; · iexact Hb
    iexact Hts
  isplitl [Hb]; · iexact Hb
  isplitl [Hh]; · iexact Hh
  isplitl [Ho]; · iexact Ho
  isplitr [HG]
  · iapply (SparseCore.Cfg.ctx_levAts κ); iexact Hctx
  iexact HG

/-- Every array that no kernel scopes is, at the end, at the program's last valuation. -/
def fq (d : Dev nD) (s' : Phys nD τ sig (Elt F)) : Prop := ∀ b ∈ plainRefs, s'.mem.mem (d, b) = val4 m d b

/-- What the program ends with says what the memory holds. -/
theorem hfin (d : Dev nD) (s' : Phys nD τ sig (Elt F)) : (iprop(FIN m d ∗ SI s') : sProp 𝕄) ⊢ (⌜fq m d s'⌝ : sProp 𝕄) := by
  unfold FIN held
  iintro ⟨H, HSI⟩
  ihave %h := (SI_pointsTo_bufs_agree (qs := fun _ => fullShare) plainRefs) $$ [HSI H]
  · isplitl [HSI]; · iexact HSI
    iexact H
  ipureintro
  exact h

/-- What the run leaves. -/
def QC : PUnit × MemSt nD τ sig (Elt F) → Prop := fun r =>
  (∀ d : Dev nD, ∀ b ∈ plainRefs, r.2.mem (d, b) = val4 m d b) ∧ r.2.sem = fun _ => 0

/-- From any memory whose reshaped indices are below the table's height, every fair run of the program ends with the arrays at the
    last valuation and every counter at zero. -/
theorem run_main [∀ e, Nonempty (Elt F e)] (hX : ∀ d x, (Xt m d x).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) scFacts v₀
    (fun q hq => match q with | 0 => nomatch hq)
    (fun q _ => match q with | 0 => tileObl (Et m) (Xt m) (Ot m) hX)
    (fun q _ => match q with | 0 => SparseCore.Cfg.VecSplit.of_plain (vecSplit (Et m) (Xt m) (Ot m)))
    m ρ main (G (F := F)) (FIN m) (u₀ (F := F)) (sep_elim_left.trans (hu₀ m)) (hmain m ρ) (fq m) (hfin m) (QC m) (fun _ h hz => ⟨h, hz⟩)

end

end Cert.Proof.Lookup
-- ==== Proof.SameText.lean ====
module

public import proofs.«01_k».proof.Proof.Gen.KernelIdeal
public import proofs.«01_k».proof.Proof.Gen.Kernel
public import proofs.«01_k».proof.Defs

@[expose] public section
noncomputable section
namespace Cert.Proof
open Idealize.ShloMosaic Idealize.ShloMosaic.TcCoe

/-- At the bit patterns a named constant is the pattern the program prints. -/
@[reducible] def namedBits : Named Bits := ⟨fun _ _ {_} b => FloatOps.ofBits _ b⟩

section
local instance : Cert.KernelIdeal.Facts := Cert.KernelIdeal.Gen.facts
local instance : Cert.Kernel.Facts := Cert.Kernel.Gen.facts
local instance : Named Bits := namedBits

set_option maxRecDepth 65536 in
/-- Kernel and ideal kernel have one text, part by part: the TensorCore body, -/
theorem body1_eq : Cert.KernelIdeal.cc1_body (F := Bits) = Cert.Kernel.cc1_body (F := Bits) := rfl

set_option maxRecDepth 65536 in
/-- the parts of the SparseCore body, -/
theorem part1_eq : Cert.KernelIdeal.k0_part1 (F := Bits) = Cert.Kernel.k0_part1 (F := Bits) := rfl
set_option maxRecDepth 65536 in
theorem part2_eq : Cert.KernelIdeal.k0_part2 (F := Bits) = Cert.Kernel.k0_part2 (F := Bits) := rfl
set_option maxRecDepth 65536 in
theorem part3_eq : Cert.KernelIdeal.k0_part3 (F := Bits) = Cert.Kernel.k0_part3 (F := Bits) := rfl
set_option maxRecDepth 65536 in
theorem part4_eq : Cert.KernelIdeal.k0_part4 (F := Bits) = Cert.Kernel.k0_part4 (F := Bits) := rfl
set_option maxRecDepth 65536 in
theorem part5_eq : Cert.KernelIdeal.k0_part5 (F := Bits) = Cert.Kernel.k0_part5 (F := Bits) := rfl
set_option maxRecDepth 65536 in
/-- the SparseCore body, -/
theorem body0_eq : Cert.KernelIdeal.cc0_k (F := Bits) = Cert.Kernel.cc0_k (F := Bits) := rfl
set_option maxRecDepth 65536 in
/-- the bodies' definitions, -/
theorem defs₀_eq : Cert.KernelIdeal.defs₀ (F := Bits) = Cert.Kernel.defs₀ (F := Bits) := by
  funext c ℓ a
  rcases c with _ | c | ⟨c, s⟩
  · obtain ⟨ℓ, hℓ⟩ := ℓ
    match ℓ, hℓ, a with
    | 0, _, _ => rfl
    | 1, _, _ => rfl
  · rfl
  · obtain ⟨ℓ, hℓ⟩ := ℓ
    match ℓ, hℓ, a with
    | 0, _, _ => rfl
    | 1, _, _ => rfl
/-- all definitions, -/
theorem defs_eq : Cert.KernelIdeal.defs (F := Bits) = Cert.Kernel.defs (F := Bits) :=
  congrArg (fun x => Cert.Kernel.sc.defs (Pipeline.defs Cert.Kernel.pcfgs x)) defs₀_eq
set_option maxRecDepth 65536 in
/-- the host program, -/
theorem main_eq : Cert.KernelIdeal.main (F := Bits) = Cert.Kernel.main (F := Bits) := rfl
set_option maxRecDepth 65536 in
/-- the threads. -/
theorem threads_eq : Cert.KernelIdeal.threads (F := Bits) = Cert.Kernel.threads (F := Bits) := rfl
end
end Cert.Proof
-- ==== Proof.Frames.lean ====
/-
  The frame claims: the arguments keep their contents, and the precondition on the indices is what the run asks for.
-/
module

public import proofs.«01_k».proof.Defs
public import proofs.«01_k».proof.Proof.Launch
public import proofs.«01_k».proof.Proof.SameText
public import proofs.«01_k».proof.Proof.Gen.ReferenceIdeal.Run
public import proofs.«01_k».proof.Proof.Gen.Pre_idx_in_vocab

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after)
open Idealize.ShloMosaic.TcCoe

/-- The references the program writes, in order. -/
def written : List (Ref sig .tc) :=
  [main_v2, main_v3, main_v4, main_v5, main_v6, main_v7, main_v8, main_v9, main_v10, main_v11, main_v12, main_v13, main_v14]

/-- The sixteen arguments of one memory are those of another, on a device. -/
abbrev Kept (m m' : (ℓ : Loc nD τ sig) → Buf (Elt F) ℓ) (d : Dev nD) : Prop :=
  m' ((T d : Thread nD τ).loc main_arg0) = m ((T d : Thread nD τ).loc main_arg0)
    ∧ m' ((T d : Thread nD τ).loc main_arg1) = m ((T d : Thread nD τ).loc main_arg1)
    ∧ m' ((T d : Thread nD τ).loc main_arg2) = m ((T d : Thread nD τ).loc main_arg2)
    ∧ m' ((T d : Thread nD τ).loc main_arg3) = m ((T d : Thread nD τ).loc main_arg3)
    ∧ m' ((T d : Thread nD τ).loc main_arg4) = m ((T d : Thread nD τ).loc main_arg4)
    ∧ m' ((T d : Thread nD τ).loc main_arg5) = m ((T d : Thread nD τ).loc main_arg5)
    ∧ m' ((T d : Thread nD τ).loc main_arg6) = m ((T d : Thread nD τ).loc main_arg6)
    ∧ m' ((T d : Thread nD τ).loc main_arg7) = m ((T d : Thread nD τ).loc main_arg7)
    ∧ m' ((T d : Thread nD τ).loc main_arg8) = m ((T d : Thread nD τ).loc main_arg8)
    ∧ m' ((T d : Thread nD τ).loc main_arg9) = m ((T d : Thread nD τ).loc main_arg9)
    ∧ m' ((T d : Thread nD τ).loc main_arg10) = m ((T d : Thread nD τ).loc main_arg10)
    ∧ m' ((T d : Thread nD τ).loc main_arg11) = m ((T d : Thread nD τ).loc main_arg11)
    ∧ m' ((T d : Thread nD τ).loc main_arg12) = m ((T d : Thread nD τ).loc main_arg12)
    ∧ m' ((T d : Thread nD τ).loc main_arg13) = m ((T d : Thread nD τ).loc main_arg13)
    ∧ m' ((T d : Thread nD τ).loc main_arg14) = m ((T d : Thread nD τ).loc main_arg14)
    ∧ m' ((T d : Thread nD τ).loc main_arg15) = m ((T d : Thread nD τ).loc main_arg15)

section

variable [FloatOps F] [Named F] (m : (ℓ : Loc nD τ sig) → Buf (Elt F) ℓ)

/-- The layout of the parameters leaves the other arrays. -/
theorem val3_of_ne (d : Dev nD) {b : Ref sig .tc} (h : b ∉ written) : val3 m d (Proc.devRef .tc b) = val2 m d (Proc.devRef .tc b) :=
  StableHlo.after_of_writes_sub (W := written) ops _ (StableHlo.forall_writes_sub_of_map rfl) h

/-- The reshape leaves the other arrays. -/
theorem val1_of_ne (d : Dev nD) {b : Ref sig .tc} (h : b ≠ main_v0) : val1 m d (Proc.devRef .tc b) = m ((T d : Thread nD τ).loc b) :=
  HloOp.result_of_not_mem _ _ (by rw [StableHlo.reshape_writes, Finset.mem_singleton]; exact ref_ne h)

/-- An array the program does not write ends as it began. -/
theorem val4_kept (d : Dev nD) {b : Ref sig .tc} (h : b ∉ main_v0 :: main_v1 :: main_v15 :: written) :
    val4 m d (Proc.devRef .tc b) = m ((T d : Thread nD τ).loc b) := by
  simp only [List.mem_cons, not_or] at h
  rw [val4_of_ne m d h.2.2.1]
  unfold regIn
  rw [val3_of_ne m d h.2.2.2, val2_of_ne m d (ref_ne h.2.1), val1_of_ne m d h.1]

/-- At the last valuation the arguments are as they were. -/
theorem kept_of_end {m' : (ℓ : Loc nD τ sig) → Buf (Elt F) ℓ} (d : Dev nD) (h : ∀ b ∈ plainRefs, m' (d, b) = val4 m d b) : Kept m m' d := by
  have k : ∀ b : Ref sig .tc, b ∉ main_v0 :: main_v1 :: main_v15 :: written → (Proc.devRef (τ := τ) .tc b).isScoped = false →
      m' ((T d : Thread nD τ).loc b) = m ((T d : Thread nD τ).loc b) :=
    fun b hb hs => (h _ (mem_plainRefs b hs)).trans (val4_kept m d hb)
  exact ⟨k main_arg0 (by decide) rfl, k main_arg1 (by decide) rfl, k main_arg2 (by decide) rfl, k main_arg3 (by decide) rfl, k main_arg4 (by decide) rfl, k main_arg5 (by decide) rfl, k main_arg6 (by decide) rfl, k main_arg7 (by decide) rfl, k main_arg8 (by decide) rfl, k main_arg9 (by decide) rfl, k main_arg10 (by decide) rfl, k main_arg11 (by decide) rfl, k main_arg12 (by decide) rfl, k main_arg13 (by decide) rfl, k main_arg14 (by decide) rfl, k main_arg15 (by decide) rfl⟩

/-- The reshaped indices are the indices. -/
theorem Xt_lt (h : ∀ d : Dev nD, ∀ j, ((m ((T d : Thread nD τ).loc main_arg0) : S4096x200.Idx → BitVec 32) j).toNat < 100000) :
    ∀ d x, (Xt m d x).toNat < 100000 := by
  intro d x
  unfold Xt val1
  rw [StableHlo.reshape_result]
  exact h d _

end

/-- A word that is not negative and is below the table's height, as signed words, is below it as a number. -/
theorem word_lt (v : BitVec 32) (e : IntOp.andi (IntOp.cmpi .sge v 0#32) (IntOp.cmpi .slt v 100000#32) = 1#1) : v.toNat < 100000 := by
  have h2 : ∀ p q : Bool, IntOp.andi (BitVec.ofBool p) (BitVec.ofBool q) = 1#1 → p = true ∧ q = true := by decide
  obtain ⟨h, h'⟩ := h2 _ _ e
  have h : (0#32).toInt ≤ v.toInt := of_decide_eq_true h
  have h' : v.toInt < (100000#32).toInt := of_decide_eq_true h'
  have z : (0#32).toInt = 0 := by decide
  have n : (100000#32).toInt = 100000 := by decide
  rw [z, BitVec.toInt_eq_toNat_cond] at h
  rw [n, BitVec.toInt_eq_toNat_cond] at h'
  split at h <;> omega

section

attribute [local instance] Cert.Pre_idx_in_vocab.Gen.facts Cert.ReferenceIdeal.Gen.facts Cert.Kernel.Gen.facts

/-- The frame of the kernel as printed. -/
theorem frame_bits : Cert.quiescent_Kernel := by
  intro m g hpre
  rw [← Cert.Proof.defs_eq, ← Cert.Proof.threads_eq]
  letI : Named Bits := Cert.Proof.namedBits
  exact (θ_run (Cert.KernelIdeal.defs (F := Bits)) _ _).mono (fun _ h => ⟨fun c => kept_of_end m c (h.1 c), h.2⟩)
    (run_main (F := Bits) m g (Xt_lt m fun d j => word_lt _ (congrFun (hpre d) j)))

/-- The frame of the ideal kernel. -/
theorem frame_ideal : Cert.quiescent_KernelIdeal := by
  intro m g hpre
  exact (θ_run (Cert.KernelIdeal.defs (F := Ideal)) _ _).mono (fun _ h => ⟨fun c => kept_of_end m c (h.1 c), h.2⟩)
    (run_main (F := Ideal) m g (Xt_lt m fun d j => word_lt _ (congrFun (hpre d) j)))

/-- The reference declares no semaphore. -/
theorem frame_ref : Cert.quiescent_ReferenceIdeal := fun m g _ =>
  (θ_run Cert.ReferenceIdeal.defs _ _).mono (fun _ h => ⟨fun c => (h c).2, funext fun sm => by rcases sm with ⟨_, s⟩; cases s <;> rename_i s <;> exact s.elim0⟩)
    (Cert.ReferenceIdeal.Value.run (F := Ideal) m g)

/-- The ideal kernel is the kernel with its one constant named. -/
theorem named_len : Cert.preserves_Kernel_KernelIdeal :=
  IdealRules.named_const.statement Cert.KernelIdeal.κ "inv_len" .f32 0x3BA3D70A#32 ((200⁻¹ : ℝ) : EReal) rfl

end

end Cert.Proof.Lookup
-- ==== Proof.Domain.lean ====
/-
  The frame claims under the value claim's precondition.
-/
module

public import proofs.«01_k».proof.Proof.Frames
public import proofs.«01_k».proof.Proof.Gen.Pre_in_domain

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

attribute [local instance] Cert.Pre_in_domain.Gen.facts Cert.ReferenceIdeal.Gen.facts

/-- On the domain every run of the kernel ends at the last valuation. -/
theorem run_domain (m : (ℓ : Loc nD τ sig) → Buf (Elt Ideal) ℓ) (g : Dev nD → PrngReg) (hpre : Cert.Pre_KernelIdeal_in_domain m) :
    θ_run (Cert.KernelIdeal.defs (F := Ideal)) (Cert.KernelIdeal.threads (F := Ideal)) ⟨m, fun _ => 0, g⟩ (QC m) :=
  run_main (F := Ideal) m g (Xt_lt m fun d j => word_lt _ (congrFun (hpre d).1 j))

/-- The frame of the ideal kernel on the domain. -/
theorem frame_domain : Cert.quiescent_KernelIdeal_pre_in_domain := fun m g hpre =>
  (θ_run (Cert.KernelIdeal.defs (F := Ideal)) _ _).mono (fun _ h => ⟨fun c => kept_of_end m c (h.1 c), h.2⟩) (run_domain m g hpre)

/-- The frame of the reference on the domain. -/
theorem frame_ref_domain : Cert.quiescent_ReferenceIdeal_pre_in_domain := fun m g _ => frame_ref m g trivial

end

end Cert.Proof.Lookup
-- ==== Proof.RefNet.lean ====
/-
  The reference's result read at an index, on the extended reals: the mean of the looked-up rows, and the three layers over it.
-/
module

public import proofs.«01_k».proof.Proof.Gen.ReferenceIdeal.Run
public import Idealize.ShloMosaic.Lib.Pointwise

@[expose] public section

noncomputable section

namespace Cert.Proof.Reference

open Cert.ReferenceIdeal Cert.ReferenceIdeal.Gen Idealize.ShloMosaic Idealize.ShloMosaic.TcCoe

/-- The constant that the normalisations add to a variance. -/
abbrev eps : EReal := Ideal.ofBits .f32 0x3727C5AC#32

/-- A normalised and rectified element, as the reference computes it. -/
def act (h b g be rm rv : EReal) : EReal := max (Ideal.div (h + b - rm) (Ideal.sqrt (rv + eps)) * g + be) 0

/-- The looked-up rows, with the rows of negative indices counted from the table's end and a fixed element where the index names no
    row. -/
def taken (E : FVec Ideal S100000x128 .f32) (X : IVec S4096x200 32) : FVec Ideal S4096x200x128 .f32 :=
  have y : IVec S4096x200x1 32 := broadcastInDim S4096x200x1 ![0, 1] bcast_S4096x200_S4096x200x1_0_1 (select (cmpi .slt X (broadcastInDim S4096x200 ![] bcast_S_S4096x200 (constantI S_ 32 0#32))) (addi X (broadcastInDim S4096x200 ![] bcast_S_S4096x200 (constantI S_ 32 100000#32))) X)
  select (broadcastInDim S4096x200x128 ![0, 1] bcast_S4096x200_S4096x200x128_0_1 (Host.reduce IntOp.andi (andi (cmpi .sge y (broadcastInDim S4096x200x1 ![] bcast_S_S4096x200x1 (constantI S_ 32 0#32))) (cmpi .sle y (broadcastInDim S4096x200x1 ![0, 1, 2] bcast_S1x1x1_S4096x200x1_0_1_2 (broadcastInDim S1x1x1 ![2] bcast_S1_S1x1x1_2 (constantI S1 32 99999#32))))) (constantI S_ 1 1#1) reducesTo_S4096x200x1_S4096x200_d2 h_S_)) (Host.gather gather_S100000x128_S4096x200x1_S4096x200x128_2_0_n_n_0_2_1128 E y) (broadcastInDim S4096x200x128 ![] bcast_S_S4096x200x128 (constant S_ .f32 0x7FC00000#32))

/-- The mean of each sequence's rows. -/
def mean (e : FVec Ideal S4096x200x128 .f32) : FVec Ideal S4096x128 .f32 :=
  Host.divf (Host.reduceAdd e (constant S_ .f32 0x00000000#32) reducesTo_S4096x200x128_S4096x128_d1 h_S_) (broadcastInDim S4096x128 ![] bcast_S_S4096x128 (constant S_ .f32 0x43480000#32))

/-- The first layer of a mean. -/
def layer1 (x : FVec Ideal S4096x128 .f32) (w : FVec Ideal S128x512 .f32) (b g be rm rv : FVec Ideal S512 .f32) : FVec Ideal S4096x512 .f32 :=
  maximumf (addf (mulf (Host.divf (subf (addf (Host.dotGeneral dot_S4096x128_S128x512_S4096x512_1_0_0_1_n_n none x w) (broadcastInDim S4096x512 ![0, 1] bcast_S1x512_S4096x512_0_1 (broadcastInDim S1x512 ![1] bcast_S512_S1x512_1 b))) (broadcastInDim S4096x512 ![0, 1] bcast_S1x512_S4096x512_0_1 (broadcastInDim S1x512 ![1] bcast_S512_S1x512_1 rm))) (broadcastInDim S4096x512 ![0, 1] bcast_S1x512_S4096x512_0_1 (broadcastInDim S1x512 ![1] bcast_S512_S1x512_1 (Host.sqrt (addf rv (broadcastInDim S512 ![] bcast_S_S512 (constant S_ .f32 0x3727C5AC#32))))))) (broadcastInDim S4096x512 ![0, 1] bcast_S1x512_S4096x512_0_1 (broadcastInDim S1x512 ![1] bcast_S512_S1x512_1 g))) (broadcastInDim S4096x512 ![0, 1] bcast_S1x512_S4096x512_0_1 (broadcastInDim S1x512 ![1] bcast_S512_S1x512_1 be))) (broadcastInDim S4096x512 ![] bcast_S_S4096x512 (constant S_ .f32 0x00000000#32))

/-- The second layer. -/
def layer2 (x : FVec Ideal S4096x512 .f32) (w : FVec Ideal S512x256 .f32) (b g be rm rv : FVec Ideal S256 .f32) : FVec Ideal S4096x256 .f32 :=
  maximumf (addf (mulf (Host.divf (subf (addf (Host.dotGeneral dot_S4096x512_S512x256_S4096x256_1_0_0_1_n_n none x w) (broadcastInDim S4096x256 ![0, 1] bcast_S1x256_S4096x256_0_1 (broadcastInDim S1x256 ![1] bcast_S256_S1x256_1 b))) (broadcastInDim S4096x256 ![0, 1] bcast_S1x256_S4096x256_0_1 (broadcastInDim S1x256 ![1] bcast_S256_S1x256_1 rm))) (broadcastInDim S4096x256 ![0, 1] bcast_S1x256_S4096x256_0_1 (broadcastInDim S1x256 ![1] bcast_S256_S1x256_1 (Host.sqrt (addf rv (broadcastInDim S256 ![] bcast_S_S256 (constant S_ .f32 0x3727C5AC#32))))))) (broadcastInDim S4096x256 ![0, 1] bcast_S1x256_S4096x256_0_1 (broadcastInDim S1x256 ![1] bcast_S256_S1x256_1 g))) (broadcastInDim S4096x256 ![0, 1] bcast_S1x256_S4096x256_0_1 (broadcastInDim S1x256 ![1] bcast_S256_S1x256_1 be))) (broadcastInDim S4096x256 ![] bcast_S_S4096x256 (constant S_ .f32 0x00000000#32))

/-- The output layer. -/
def layer3 (x : FVec Ideal S4096x256 .f32) (w : FVec Ideal S256x11 .f32) (b : FVec Ideal S11 .f32) : FVec Ideal S4096x11 .f32 :=
  addf (Host.dotGeneral dot_S4096x256_S256x11_S4096x11_1_0_0_1_n_n none x w) (broadcastInDim S4096x11 ![0, 1] bcast_S1x11_S4096x11_0_1 (broadcastInDim S1x11 ![1] bcast_S11_S1x11_1 b))

set_option maxRecDepth 8192 in
/-- The reference's result as these parts. -/
theorem result_eq (m : (ℓ : Loc nD τ sig) → Buf (Elt Ideal) ℓ) (c : Dev nD) :
    Value.res_main_v47 m c = layer3 (layer2 (layer1 (mean (taken (m ((c.tc : Thread nD τ).loc main_arg1)) (m ((c.tc : Thread nD τ).loc main_arg0))))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      (m ((c.tc : Thread nD τ).loc main_arg14)) (m ((c.tc : Thread nD τ).loc main_arg15)) := rfl

/-- The first layer at an element. -/
theorem layer1_apply (x : FVec Ideal S4096x128 .f32) (w : FVec Ideal S128x512 .f32) (b g be rm rv : FVec Ideal S512 .f32) (r : Fin 4096) (j : Fin 512) :
    layer1 x w b g be rm rv (ix2 r j) = act (∑ k : Fin 128, x (ix2 r k) * w (ix2 k j)) (b (ix1 j)) (g (ix1 j)) (be (ix1 j)) (rm (ix1 j)) (rv (ix1 j)) := by
  pointwise [layer1, act]
  done

/-- The second layer at an element. -/
theorem layer2_apply (x : FVec Ideal S4096x512 .f32) (w : FVec Ideal S512x256 .f32) (b g be rm rv : FVec Ideal S256 .f32) (r : Fin 4096) (j : Fin 256) :
    layer2 x w b g be rm rv (ix2 r j) = act (∑ k : Fin 512, x (ix2 r k) * w (ix2 k j)) (b (ix1 j)) (g (ix1 j)) (be (ix1 j)) (rm (ix1 j)) (rv (ix1 j)) := by
  pointwise [layer2, act]
  done

/-- The output layer at an element. -/
theorem layer3_apply (x : FVec Ideal S4096x256 .f32) (w : FVec Ideal S256x11 .f32) (b : FVec Ideal S11 .f32) (r : Fin 4096) (j : Fin 11) :
    layer3 x w b (ix2 r j) = (∑ k : Fin 256, x (ix2 r k) * w (ix2 k j)) + b (ix1 j) := by
  pointwise [layer3]
  done

/-- The mean at an element: the sum of the rows over the length. -/
theorem mean_apply (e : FVec Ideal S4096x200x128 .f32) (r : Fin 4096) (j : Fin 128) :
    mean e (ix2 r j) = Ideal.div (∑ k : Fin 200, e (ix3 r k j)) (Ideal.ofBits .f32 0x43480000#32) := by
  pointwise [mean]
  done

/-! ## The looked-up rows -/

/-- A word below the table's length is its own signed value. -/
theorem toInt_of_lt (w : BitVec 32) (h : w.toNat < 100000) : w.toInt = w.toNat := by
  rw [BitVec.toInt_eq_toNat_cond, if_pos (by omega)]

/-- The gather at an index: the table at the row the index names, read signed and held inside the table. -/
theorem gather_apply (E : FVec Ideal S100000x128 .f32) (y : IVec S4096x200x1 32) (r : Fin 4096) (k : Fin 200) (j : Fin 128) :
    Host.gather gather_S100000x128_S4096x200x1_S4096x200x128_2_0_n_n_0_2_1128 E y (ix3 r k j)
      = E (ix2 ⟨min (y (ix3 r k 0)).toInt.toNat 99999, by omega⟩ j) := by
  unfold Host.gather
  congr 1
  have hs : (gather_S100000x128_S4096x200x1_S4096x200x128_2_0_n_n_0_2_1128).siIdx (ix3 r k j) ⟨0, Nat.one_pos⟩ = ix3 r k 0 := by
    funext b
    match b with
    | ⟨0, _⟩ => rfl
    | ⟨1, _⟩ => rfl
    | ⟨2, _⟩ => rfl
  funext a
  refine Fin.ext ?_
  match a with
  | ⟨0, _⟩ =>
    show min (y ((gather_S100000x128_S4096x200x1_S4096x200x128_2_0_n_n_0_2_1128).siIdx (ix3 r k j) ⟨0, Nat.one_pos⟩)).toInt.toNat (100000 - 1) + 0 + 0 = _
    rw [hs]; rfl
  | ⟨1, _⟩ =>
    show 0 + 0 + j.val = j.val
    omega

/-- Indices inside the table look up their own rows. -/
theorem taken_apply (E : FVec Ideal S100000x128 .f32) (X : IVec S4096x200 32) (h : ∀ i, (X i).toNat < 100000) (r : Fin 4096) (k : Fin 200) (j : Fin 128) :
    taken E X (ix3 r k j) = E (ix2 ⟨(X (ix2 r k)).toNat, h _⟩ j) := by
  have hw := h (ix2 r k)
  have hi := toInt_of_lt _ hw
  have z : (0#32).toInt = 0 := by decide
  have n : (99999#32).toInt = 99999 := by decide
  have e0 : IntOp.cmpi .slt (X (ix2 r k)) 0#32 = 0#1 := congrArg BitVec.ofBool (decide_eq_false (by rw [hi, z]; omega))
  have e1 : IntOp.cmpi .sge (X (ix2 r k)) 0#32 = 1#1 := congrArg BitVec.ofBool (decide_eq_true (by rw [hi, z]; omega))
  have e2 : IntOp.cmpi .sle (X (ix2 r k)) 99999#32 = 1#1 := congrArg BitVec.ofBool (decide_eq_true (by rw [hi, n]; omega))
  have s0 : ∀ {α : Type} (a b : α), Scalar.select 0#1 a b = b := fun _ _ => rfl
  have s1 : ∀ {α : Type} (a b : α), Scalar.select 1#1 a b = a := fun _ _ => rfl
  pointwise [taken]
  simp only [e0, s0, e1, e2, Finset.univ_unique, Finset.fold_singleton]
  rw [show IntOp.andi (IntOp.andi 1#1 1#1) 1#1 = (1#1 : BitVec 1) from rfl, s1, gather_apply]
  congr 2
  refine Fin.ext ?_
  pointwise
  rw [e0, s0, hi]
  show min ((X (ix2 r k)).toNat : Int).toNat 99999 = (X (ix2 r k)).toNat
  omega

end Cert.Proof.Reference
-- ==== Proof.KerNet.lean ====
/-
  The two normalised layers and the output layer read at an index, on the extended reals, with the parameters laid out as the TensorCore
  region reads them; and the law by which a scale distributed over the sum is the reference's quotient and product.
-/
module

public import proofs.«01_k».proof.Proof.Region
public import proofs.«01_k».proof.Proof.RefNet

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Reference (eps act)

/-! ## One element of a normalised layer -/

/-- A normalised and rectified element, as the kernel computes it: the scale distributed over the sum. -/
def actK (h b g be rm rv : EReal) : EReal :=
  max (h * (g * Ideal.rsqrt (rv + eps)) + (b - rm) * (g * Ideal.rsqrt (rv + eps)) + be) 0

/-- A real factor comes out of a sum with one real term, whatever the other term is. -/
theorem scale_sum (h : EReal) (d t g : ℝ) (ht : 0 < t) : h * ((g * t : ℝ) : EReal) + ((d * (g * t) : ℝ) : EReal) = (h + (d : EReal)) * (t : EReal) * (g : EReal) := by
  induction h with
  | coe x => norm_cast; ring
  | top =>
    rw [EReal.top_add_coe, EReal.top_mul_coe_of_pos ht]
    rcases lt_trichotomy g 0 with hg | rfl | hg
    · rw [EReal.top_mul_coe_of_neg hg, EReal.top_mul_coe_of_neg (mul_neg_of_neg_of_pos hg ht), EReal.bot_add]
    · simp
    · rw [EReal.top_mul_coe_of_pos hg, EReal.top_mul_coe_of_pos (mul_pos hg ht), EReal.top_add_coe]
  | bot =>
    rw [EReal.bot_add, EReal.bot_mul_coe_of_pos ht]
    rcases lt_trichotomy g 0 with hg | rfl | hg
    · rw [EReal.bot_mul_coe_of_neg hg, EReal.bot_mul_coe_of_neg (mul_neg_of_neg_of_pos hg ht), EReal.top_add_coe]
    · simp
    · rw [EReal.bot_mul_coe_of_pos hg, EReal.bot_mul_coe_of_pos (mul_pos hg ht), EReal.bot_add]

/-- With a real bias, scale and running mean and a positive variance the two are one. -/
theorem act_eq (h be rv : EReal) (b g rm : ℝ) (hv : 0 < rv + eps) : actK h b g be rm rv = act h b g be rm rv := by
  unfold actK act
  congr 2
  rw [sub_eq_add_neg (h + (b : EReal)), add_assoc h, ← sub_eq_add_neg, ← EReal.coe_sub]
  generalize rv + eps = v at hv ⊢
  induction v with
  | bot => exact absurd hv (by simp)
  | top => simp [Ideal.div]
  | coe q =>
    have hq : 0 < q := by exact_mod_cast hv
    have hs : 0 < Real.sqrt q := Real.sqrt_pos.mpr hq
    rw [Ideal.rsqrt_coe, if_neg (not_lt.mpr hq.le), if_neg hq.ne', Ideal.sqrt_coe, if_neg (not_lt.mpr hq.le), Ideal.div_coe hs.ne', one_div,
      ← EReal.coe_mul, ← EReal.coe_mul]
    exact scale_sum h (b - rm) (Real.sqrt q)⁻¹ g (inv_pos.mpr hs)

/-! ## The layers -/

/-- What the region's body writes, at an index. -/
theorem pay_apply (x : FVec Ideal S2048x128 .f32) (w1 : FVec Ideal S128x512 .f32) (b1 g1 be1 rm1 rv1 : FVec Ideal S1x512 .f32) (w2 : FVec Ideal S512x256 .f32)
    (b2 g2 be2 rm2 rv2 : FVec Ideal S1x256 .f32) (w3 : FVec Ideal S256x11 .f32) (b3 : FVec Ideal S1x11 .f32) (r : Fin 2048) (j : Fin 11) :
    k1_pay1 (F := Ideal) (k1_pay2 x w1 b1 g1 be1 rm1 rv1 w2) (k1_pay3 b2) (k1_pay4 g2) be2 rm2 rv2 w3 b3 (ix2 r j)
      = (∑ k : Fin 256, actK (∑ l : Fin 512, actK (∑ i : Fin 128, x (ix2 r i) * w1 (ix2 i l)) (b1 (ix2 0 l)) (g1 (ix2 0 l)) (be1 (ix2 0 l)) (rm1 (ix2 0 l)) (rv1 (ix2 0 l)) * w2 (ix2 l k))
          (b2 (ix2 0 k)) (g2 (ix2 0 k)) (be2 (ix2 0 k)) (rm2 (ix2 0 k)) (rv2 (ix2 0 k)) * w3 (ix2 k j)) + b3 (ix2 0 j) := by
  pointwise [k1_pay1, k1_pay2, k1_pay3, k1_pay4, actK]
  done

end Cert.Proof.Lookup
-- ==== Proof.Blocks.lean ====
/-
  The region's result array in closed form: each of the two grid points writes its block of ONE function of the arrays the region reads,
  and the two blocks cover the array.
-/
module

public import proofs.«01_k».proof.Proof.KerNet

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A block's index in its array -/

/-- A point of the grid as the number of its block. -/
def blkNo (t : Fin cfg1.N) : Fin 2 := ⟨t.val, t.isLt⟩

/-- Row `r` of block `t` of the 4096 rows. -/
def rowIn (t : Fin 2) (r : Fin 2048) : Fin 4096 := ⟨t.val * 2048 + r.val, by omega⟩

/-- The pooled rows and the result move by one block at each point. -/
theorem index0 : ∀ t : Fin cfg1.N, win1_0.index t (0 : Fin 2) = t.val := (by decide +kernel : ∀ t : Fin grid1.N, _)
theorem index7 : ∀ t : Fin cfg1.N, win1_7.index t (0 : Fin 2) = t.val := (by decide +kernel : ∀ t : Fin grid1.N, _)

/-- Where an element of the pooled rows' block lies. -/
theorem emb0 (t : Fin cfg1.N) (r : Fin 2048) (j : Fin 128) : ((cfg1.win 0).blk t).view.emb (ix2 r j) = (ix2 (rowIn (blkNo t) r) j : S4096x128.Idx) := by
  have e := index0 t
  funext a; apply Fin.ext
  match a with
  | ⟨0, _⟩ => show win1_0.index t (0 : Fin 2) * 2048 + 1 * r.val = t.val * 2048 + r.val; omega
  | ⟨1, _⟩ => show 0 * 128 + 1 * j.val = j.val; omega
/-- Where an element of the result's block lies. -/
theorem emb7 (t : Fin cfg1.N) (r : Fin 2048) (j : Fin 11) : ((cfg1.win 7).blk t).view.emb (ix2 r j) = (ix2 (rowIn (blkNo t) r) j : S4096x11.Idx) := by
  have e := index7 t
  funext a; apply Fin.ext
  match a with
  | ⟨0, _⟩ => show win1_7.index t (0 : Fin 2) * 2048 + 1 * r.val = t.val * 2048 + r.val; omega
  | ⟨1, _⟩ => show 0 * 11 + 1 * j.val = j.val; omega

/-- The other windows are whole arrays. -/
theorem emb1 (t : Fin cfg1.N) (y : S128x512.Idx) : ((cfg1.win 1).blk t).view.emb y = y := by
  funext a; apply Fin.ext
  match a with
  | ⟨0, _⟩ => show 0 * 128 + 1 * (y 0).val = (y 0).val; omega
  | ⟨1, _⟩ => show 0 * 512 + 1 * (y 1).val = (y 1).val; omega
theorem emb2 (t : Fin cfg1.N) (y : S5x512.Idx) : ((cfg1.win 2).blk t).view.emb y = y := by
  funext a; apply Fin.ext
  match a with
  | ⟨0, _⟩ => show 0 * 5 + 1 * (y 0).val = (y 0).val; omega
  | ⟨1, _⟩ => show 0 * 512 + 1 * (y 1).val = (y 1).val; omega
theorem emb3 (t : Fin cfg1.N) (y : S512x256.Idx) : ((cfg1.win 3).blk t).view.emb y = y := by
  funext a; apply Fin.ext
  match a with
  | ⟨0, _⟩ => show 0 * 512 + 1 * (y 0).val = (y 0).val; omega
  | ⟨1, _⟩ => show 0 * 256 + 1 * (y 1).val = (y 1).val; omega
theorem emb4 (t : Fin cfg1.N) (y : S5x256.Idx) : ((cfg1.win 4).blk t).view.emb y = y := by
  funext a; apply Fin.ext
  match a with
  | ⟨0, _⟩ => show 0 * 5 + 1 * (y 0).val = (y 0).val; omega
  | ⟨1, _⟩ => show 0 * 256 + 1 * (y 1).val = (y 1).val; omega
theorem emb5 (t : Fin cfg1.N) (y : S256x11.Idx) : ((cfg1.win 5).blk t).view.emb y = y := by
  funext a; apply Fin.ext
  match a with
  | ⟨0, _⟩ => show 0 * 256 + 1 * (y 0).val = (y 0).val; omega
  | ⟨1, _⟩ => show 0 * 11 + 1 * (y 1).val = (y 1).val; omega
theorem emb6 (t : Fin cfg1.N) (y : S1x11.Idx) : ((cfg1.win 6).blk t).view.emb y = y := by
  funext a; apply Fin.ext
  match a with
  | ⟨0, _⟩ => show 0 * 1 + 1 * (y 0).val = (y 0).val; omega
  | ⟨1, _⟩ => show 0 * 11 + 1 * (y 1).val = (y 1).val; omega

/-! ## The result array -/

/-- The layers over whole arrays: the pooled rows, and for each normalised layer its weights and its five rows of parameters. -/
def net (x : S4096x128.Idx → EReal) (w1 : S128x512.Idx → EReal) (p1 : S5x512.Idx → EReal) (w2 : S512x256.Idx → EReal) (p2 : S5x256.Idx → EReal)
    (w3 : S256x11.Idx → EReal) (b3 : S1x11.Idx → EReal) : S4096x11.Idx → EReal := fun o =>
  (∑ k : Fin 256, actK (∑ l : Fin 512, actK (∑ i : Fin 128, x (ix2 (o 0) i) * w1 (ix2 i l)) (p1 (ix2 0 l)) (p1 (ix2 1 l)) (p1 (ix2 2 l)) (p1 (ix2 3 l)) (p1 (ix2 4 l)) * w2 (ix2 l k))
      (p2 (ix2 0 k)) (p2 (ix2 1 k)) (p2 (ix2 2 k)) (p2 (ix2 3 k)) (p2 (ix2 4 k)) * w3 (ix2 k (o 1))) + b3 (ix2 0 (o 1))

/-- A row of a stack, read. -/
theorem row1_apply (p : S5x512.Idx → EReal) (k : ℕ) (h) (hk : k < 5) (j : Fin 512) : row1 (F := Ideal) p k h (ix2 0 j) = p (ix2 ⟨k, hk⟩ j) := by
  show p ((Rect.unit (s := S5x512) ![k, 0] S1x512.size h).emb (ix2 0 j)) = _
  congr 1
  funext a; apply Fin.ext
  match a with
  | ⟨0, _⟩ => show k + 1 * 0 = k; omega
  | ⟨1, _⟩ => show 0 + 1 * j.val = j.val; omega
theorem row2_apply (p : S5x256.Idx → EReal) (k : ℕ) (h) (hk : k < 5) (j : Fin 256) : row2 (F := Ideal) p k h (ix2 0 j) = p (ix2 ⟨k, hk⟩ j) := by
  show p ((Rect.unit (s := S5x256) ![k, 0] S1x256.size h).emb (ix2 0 j)) = _
  congr 1
  funext a; apply Fin.ext
  match a with
  | ⟨0, _⟩ => show k + 1 * 0 = k; omega
  | ⟨1, _⟩ => show 0 + 1 * j.val = j.val; omega

/-- Equal parts give equal normalised elements. -/
theorem actK_congr {h h' b b' g g' be be' rm rm' rv rv' : EReal} (eh : h = h') (eb : b = b') (eg : g = g') (ebe : be = be') (erm : rm = rm') (erv : rv = rv') :
    actK h b g be rm rv = actK h' b' g' be' rm' rv' := by
  rw [eh, eb, eg, ebe, erm, erv]

variable (W : (c : Dev nD) → (b : Ref sig .tc) → Buf (Elt Ideal) ((T c : Thread nD τ).loc b))

/-- The blocks the body reads: whole arrays, and the rows of the pooled array. -/
theorem blk1_eq (c : Dev nD) (t : Fin cfg1.N) : blk1 W c t = (W c main_arg2 : S128x512.Idx → EReal) := by
  funext y; show W c main_arg2 (((cfg1.win 1).blk t).view.emb y) = _; rw [emb1]
theorem blk2_eq (c : Dev nD) (t : Fin cfg1.N) : blk2 W c t = (W c main_v7 : S5x512.Idx → EReal) := by
  funext y; show W c main_v7 (((cfg1.win 2).blk t).view.emb y) = _; rw [emb2]
theorem blk3_eq (c : Dev nD) (t : Fin cfg1.N) : blk3 W c t = (W c main_arg8 : S512x256.Idx → EReal) := by
  funext y; show W c main_arg8 (((cfg1.win 3).blk t).view.emb y) = _; rw [emb3]
theorem blk4_eq (c : Dev nD) (t : Fin cfg1.N) : blk4 W c t = (W c main_v13 : S5x256.Idx → EReal) := by
  funext y; show W c main_v13 (((cfg1.win 4).blk t).view.emb y) = _; rw [emb4]
theorem blk5_eq (c : Dev nD) (t : Fin cfg1.N) : blk5 W c t = (W c main_arg14 : S256x11.Idx → EReal) := by
  funext y; show W c main_arg14 (((cfg1.win 5).blk t).view.emb y) = _; rw [emb5]
theorem blk6_eq (c : Dev nD) (t : Fin cfg1.N) : blk6 W c t = (W c main_v14 : S1x11.Idx → EReal) := by
  funext y; show W c main_v14 (((cfg1.win 6).blk t).view.emb y) = _; rw [emb6]
theorem blk0_apply (c : Dev nD) (t : Fin cfg1.N) (r : Fin 2048) (j : Fin 128) :
    blk0 W c t (ix2 r j) = (W c main_v1 : S4096x128.Idx → EReal) (ix2 (rowIn (blkNo t) r) j) := by
  show W c main_v1 (((cfg1.win 0).blk t).view.emb (ix2 r j)) = _; rw [emb0]

/-- The layers of the arrays the region reads. -/
abbrev netW (c : Dev nD) : S4096x11.Idx → EReal :=
  net (W c main_v1) (W c main_arg2) (W c main_v7) (W c main_arg8) (W c main_v13) (W c main_arg14) (W c main_v14)

/-- What the body leaves at point `t` is that point's block of the layers. -/
theorem outV_apply (c : Dev nD) (t : Fin cfg1.N) (r : Fin 2048) (j : Fin 11) : outV W c t (ix2 r j) = netW W c (ix2 (rowIn (blkNo t) r) j) := by
  unfold outV mlp
  rw [blk1_eq, blk2_eq, blk3_eq, blk4_eq, blk5_eq, blk6_eq, pay_apply]
  refine congrArg (· + _) (Finset.sum_congr rfl fun k _ => congrArg (· * _) (actK_congr (Finset.sum_congr rfl fun l _ => congrArg (· * _) (actK_congr ?_
    (row1_apply _ 0 _ (by decide) l) (row1_apply _ 1 _ (by decide) l) (row1_apply _ 2 _ (by decide) l) (row1_apply _ 3 _ (by decide) l) (row1_apply _ 4 _ (by decide) l)))
    (row2_apply _ 0 _ (by decide) k) (row2_apply _ 1 _ (by decide) k) (row2_apply _ 2 _ (by decide) k) (row2_apply _ 3 _ (by decide) k) (row2_apply _ 4 _ (by decide) k)))
  exact Finset.sum_congr rfl fun i _ => congrArg (· * _) (blk0_apply W c t r i)

/-- Each point writes back its block of the layers. -/
theorem flushed_eq (c : Dev nD) (t : Fin cfg1.N) : (dat W c).flushed 7 t = ((cfg1.win 7).blk t).view.read (Elt Ideal) (netW W c) := by
  funext y
  show outV W c t y = netW W c (((cfg1.win 7).blk t).view.emb y)
  obtain ⟨r, hr⟩ : ∃ r : Fin 2048, r = y 0 := ⟨_, rfl⟩
  obtain ⟨j, hj⟩ : ∃ j : Fin 11, j = y 1 := ⟨_, rfl⟩
  rw [show y = ix2 r j by rw [hr, hj]; exact eq_ix2 (n0 := 2048) (n1 := 11) y, emb7]
  exact outV_apply W c t r j

/-- The two blocks cover the result. -/
theorem cover (i : S4096x11.Idx) : ∃ t : Fin cfg1.N, (cfg1.win 7).flush t = true ∧ i ∈ ((cfg1.win 7).blk t).view.set := by
  obtain ⟨r, hr⟩ : ∃ r : Fin 4096, r = i 0 := ⟨_, rfl⟩
  obtain ⟨j, hj⟩ : ∃ j : Fin 11, j = i 1 := ⟨_, rfl⟩
  have hN : cfg1.N = 2 := N_1
  refine ⟨⟨r.val / 2048, by omega⟩, flush1_7 _, ?_⟩
  have h := ((cfg1.win 7).blk (⟨r.val / 2048, by omega⟩ : Fin cfg1.N)).view.emb_mem_set (ix2 (⟨r.val % 2048, Nat.mod_lt _ (by decide)⟩ : Fin 2048) j)
  rw [emb7] at h
  have e : (ix2 (rowIn (blkNo ⟨r.val / 2048, by omega⟩) ⟨r.val % 2048, Nat.mod_lt _ (by decide)⟩) j : S4096x11.Idx) = i := by
    have ei : i = ix2 r j := by rw [hr, hj]; exact eq_ix2 (n0 := 4096) (n1 := 11) i
    refine Eq.trans ?_ ei.symm
    congr 1
    exact Fin.ext (show r.val / 2048 * 2048 + r.val % 2048 = r.val by omega)
  rw [e] at h; exact h

/-- The result's array after the region. -/
theorem outArr_eq (c : Dev nD) : outArr W c = netW W c :=
  (dat W c).arrAt_eq_of_cover 7 (netW W c) (fun t _ => flushed_eq W c t) cover

end Cert.Proof.Lookup
-- ==== Proof.Value.lean ====
/-
  The result of the program in closed form, from the arguments at the launch: the parameter stacks' rows are the arguments, the pooled rows
  are the means of the looked-up rows, and on the domain of the claim the layers are the reference's.
-/
module

public import proofs.«01_k».proof.Proof.Domain
public import proofs.«01_k».proof.Proof.Blocks

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Reference (eps act)
open Idealize.ShloMosaic.StableHlo (held after)
open Idealize.ShloMosaic.TcCoe

section

variable [FloatOps F] [Named F] (m : (ℓ : Loc nD τ sig) → Buf (Elt F) ℓ)

/-! ## The arrays the region reads -/

/-- After the call the arguments are as they were. -/
theorem val2_arg (d : Dev nD) {b : Ref sig .tc} (h : b ∉ [main_v0, main_v1]) : val2 m d (Proc.devRef .tc b) = m ((T d : Thread nD τ).loc b) := by
  simp only [List.mem_cons, List.not_mem_nil, or_false, not_or] at h
  rw [val2_of_ne m d (ref_ne h.2), val1_of_ne m d h.1]

/-- An argument the region reads is as it was at the launch. -/
theorem regIn_arg (d : Dev nD) {b : Ref sig .tc} (h : b ∉ main_v0 :: main_v1 :: written) : regIn m d b = m ((T d : Thread nD τ).loc b) := by
  simp only [List.mem_cons, not_or] at h
  unfold regIn
  rw [val3_of_ne m d h.2.2, val2_of_ne m d (ref_ne h.2.1), val1_of_ne m d h.1]

/-- The region finds the pooled rows. -/
theorem regIn_v1 (d : Dev nD) : regIn m d main_v1 = pooled (Et m d) (Xt m d) := by
  unfold regIn
  rw [val3_of_ne m d (by decide)]
  exact Function.update_self ..

/-- Five rows, and five vectors as rows, stacked. -/
def rows1 (u0 u1 u2 u3 u4 : S1x512.Idx → F .f32) : S5x512.Idx → F .f32 :=
  concatenate S5x512 0 [⟨S1x512, u0⟩, ⟨S1x512, u1⟩, ⟨S1x512, u2⟩, ⟨S1x512, u3⟩, ⟨S1x512, u4⟩] concatenates_S1x512_S1x512_S1x512_S1x512_S1x512_S5x512_d0
def stack1 (b g be rm rv : S512.Idx → F .f32) : S5x512.Idx → F .f32 :=
  rows1 (broadcastInDim S1x512 ![1] bcast_S512_S1x512_1 b) (broadcastInDim S1x512 ![1] bcast_S512_S1x512_1 g) (broadcastInDim S1x512 ![1] bcast_S512_S1x512_1 be)
    (broadcastInDim S1x512 ![1] bcast_S512_S1x512_1 rm) (broadcastInDim S1x512 ![1] bcast_S512_S1x512_1 rv)

/-- The rows of the stack are the vectors. -/
theorem stack1_apply (b g be rm rv : S512.Idx → F .f32) (l : Fin 512) :
    stack1 b g be rm rv (ix2 0 l) = b (ix1 l) ∧ stack1 b g be rm rv (ix2 1 l) = g (ix1 l) ∧ stack1 b g be rm rv (ix2 2 l) = be (ix1 l)
      ∧ stack1 b g be rm rv (ix2 3 l) = rm (ix1 l) ∧ stack1 b g be rm rv (ix2 4 l) = rv (ix1 l) := by
  refine ⟨?_, ?_, ?_, ?_, ?_⟩ <;> pointwise [stack1, rows1]

/-- The region finds the layer's parameters so. -/
theorem regIn_v7 (d : Dev nD) :
    regIn m d main_v7 = stack1 (m ((T d : Thread nD τ).loc main_arg3)) (m ((T d : Thread nD τ).loc main_arg4)) (m ((T d : Thread nD τ).loc main_arg5))
      (m ((T d : Thread nD τ).loc main_arg6)) (m ((T d : Thread nD τ).loc main_arg7)) := by
  unfold regIn val3
  rw [StableHlo.after_last_write (ops := ops) (i := 5) [main_v8, main_v9, main_v10, main_v11, main_v12, main_v13, main_v14] rfl rfl (by decide), StableHlo.nary_result]
  have e0 : StableHlo.upto ops (val2 m d) 5 (Proc.devRef .tc main_v2) = broadcastInDim S1x512 ![1] bcast_S512_S1x512_1 (val2 m d (Proc.devRef .tc main_arg3)) := by after_reads_simp
  have e1 : StableHlo.upto ops (val2 m d) 5 (Proc.devRef .tc main_v3) = broadcastInDim S1x512 ![1] bcast_S512_S1x512_1 (val2 m d (Proc.devRef .tc main_arg4)) := by after_reads_simp
  have e2 : StableHlo.upto ops (val2 m d) 5 (Proc.devRef .tc main_v4) = broadcastInDim S1x512 ![1] bcast_S512_S1x512_1 (val2 m d (Proc.devRef .tc main_arg5)) := by after_reads_simp
  have e3 : StableHlo.upto ops (val2 m d) 5 (Proc.devRef .tc main_v5) = broadcastInDim S1x512 ![1] bcast_S512_S1x512_1 (val2 m d (Proc.devRef .tc main_arg6)) := by after_reads_simp
  have e4 : StableHlo.upto ops (val2 m d) 5 (Proc.devRef .tc main_v6) = broadcastInDim S1x512 ![1] bcast_S512_S1x512_1 (val2 m d (Proc.devRef .tc main_arg7)) := by after_reads_simp
  rw [val2_arg m d (by decide)] at e0 e1 e2 e3 e4
  show rows1 (StableHlo.upto ops (val2 m d) 5 (Proc.devRef .tc main_v2)) (StableHlo.upto ops (val2 m d) 5 (Proc.devRef .tc main_v3))
    (StableHlo.upto ops (val2 m d) 5 (Proc.devRef .tc main_v4)) (StableHlo.upto ops (val2 m d) 5 (Proc.devRef .tc main_v5))
    (StableHlo.upto ops (val2 m d) 5 (Proc.devRef .tc main_v6)) = _
  rw [e0, e1, e2, e3, e4]
  rfl

/-- Five rows, and five vectors as rows, stacked. -/
def rows2 (u0 u1 u2 u3 u4 : S1x256.Idx → F .f32) : S5x256.Idx → F .f32 :=
  concatenate S5x256 0 [⟨S1x256, u0⟩, ⟨S1x256, u1⟩, ⟨S1x256, u2⟩, ⟨S1x256, u3⟩, ⟨S1x256, u4⟩] concatenates_S1x256_S1x256_S1x256_S1x256_S1x256_S5x256_d0
def stack2 (b g be rm rv : S256.Idx → F .f32) : S5x256.Idx → F .f32 :=
  rows2 (broadcastInDim S1x256 ![1] bcast_S256_S1x256_1 b) (broadcastInDim S1x256 ![1] bcast_S256_S1x256_1 g) (broadcastInDim S1x256 ![1] bcast_S256_S1x256_1 be)
    (broadcastInDim S1x256 ![1] bcast_S256_S1x256_1 rm) (broadcastInDim S1x256 ![1] bcast_S256_S1x256_1 rv)

/-- The rows of the stack are the vectors. -/
theorem stack2_apply (b g be rm rv : S256.Idx → F .f32) (l : Fin 256) :
    stack2 b g be rm rv (ix2 0 l) = b (ix1 l) ∧ stack2 b g be rm rv (ix2 1 l) = g (ix1 l) ∧ stack2 b g be rm rv (ix2 2 l) = be (ix1 l)
      ∧ stack2 b g be rm rv (ix2 3 l) = rm (ix1 l) ∧ stack2 b g be rm rv (ix2 4 l) = rv (ix1 l) := by
  refine ⟨?_, ?_, ?_, ?_, ?_⟩ <;> pointwise [stack2, rows2]

/-- The region finds the layer's parameters so. -/
theorem regIn_v13 (d : Dev nD) :
    regIn m d main_v13 = stack2 (m ((T d : Thread nD τ).loc main_arg9)) (m ((T d : Thread nD τ).loc main_arg10)) (m ((T d : Thread nD τ).loc main_arg11))
      (m ((T d : Thread nD τ).loc main_arg12)) (m ((T d : Thread nD τ).loc main_arg13)) := by
  unfold regIn val3
  rw [StableHlo.after_last_write (ops := ops) (i := 11) [main_v14] rfl rfl (by decide), StableHlo.nary_result]
  have e0 : StableHlo.upto ops (val2 m d) 11 (Proc.devRef .tc main_v8) = broadcastInDim S1x256 ![1] bcast_S256_S1x256_1 (val2 m d (Proc.devRef .tc main_arg9)) := by after_reads_simp
  have e1 : StableHlo.upto ops (val2 m d) 11 (Proc.devRef .tc main_v9) = broadcastInDim S1x256 ![1] bcast_S256_S1x256_1 (val2 m d (Proc.devRef .tc main_arg10)) := by after_reads_simp
  have e2 : StableHlo.upto ops (val2 m d) 11 (Proc.devRef .tc main_v10) = broadcastInDim S1x256 ![1] bcast_S256_S1x256_1 (val2 m d (Proc.devRef .tc main_arg11)) := by after_reads_simp
  have e3 : StableHlo.upto ops (val2 m d) 11 (Proc.devRef .tc main_v11) = broadcastInDim S1x256 ![1] bcast_S256_S1x256_1 (val2 m d (Proc.devRef .tc main_arg12)) := by after_reads_simp
  have e4 : StableHlo.upto ops (val2 m d) 11 (Proc.devRef .tc main_v12) = broadcastInDim S1x256 ![1] bcast_S256_S1x256_1 (val2 m d (Proc.devRef .tc main_arg13)) := by after_reads_simp
  rw [val2_arg m d (by decide)] at e0 e1 e2 e3 e4
  show rows2 (StableHlo.upto ops (val2 m d) 11 (Proc.devRef .tc main_v8)) (StableHlo.upto ops (val2 m d) 11 (Proc.devRef .tc main_v9))
    (StableHlo.upto ops (val2 m d) 11 (Proc.devRef .tc main_v10)) (StableHlo.upto ops (val2 m d) 11 (Proc.devRef .tc main_v11))
    (StableHlo.upto ops (val2 m d) 11 (Proc.devRef .tc main_v12)) = _
  rw [e0, e1, e2, e3, e4]
  rfl

/-- The last bias, as a row. -/
theorem regIn_v14 (d : Dev nD) (j : Fin 11) :
    (regIn m d main_v14 : S1x11.Idx → F .f32) (ix2 0 j) = (m ((T d : Thread nD τ).loc main_arg15) : S11.Idx → F .f32) (ix1 j) := by
  have e : regIn m d main_v14 = shapeCast S1x11 (val2 m d (Proc.devRef .tc main_arg15)) shapeCasts_S11_S1x11 := by
    unfold regIn val3
    after_reads_simp
    rfl
  rw [val2_arg m d (by decide)] at e
  rw [e]
  pointwise

/-! ## The pooled rows -/

/-- Word `k` of row `r` is word `k % 50` of the row's list `k / 50`. -/
theorem Xt_apply (d : Dev nD) (r : Fin 4096) (k : Fin 200) :
    Xt m d (ix3 r (Fin.ofNat 4 (k.val / 50)) (Fin.ofNat 50 k.val)) = (m ((T d : Thread nD τ).loc main_arg0) : S4096x200.Idx → BitVec 32) (ix2 r k) := by
  have e : Xt m d = shapeCast S4096x4x50 (m ((T d : Thread nD τ).loc main_arg0) : S4096x200.Idx → BitVec 32) shapeCasts_S4096x200_S4096x4x50 := by
    unfold Xt val1
    rw [StableHlo.reshape_result]
    rfl
  rw [e]
  pointwise
  congr 2
  exact Fin.ext (show k.val / 50 % 4 * 50 + k.val % 50 = k.val by omega)

/-- The table the call reads is the argument. -/
theorem Et_eq (d : Dev nD) : Et m d = m ((T d : Thread nD τ).loc main_arg1) := val1_of_ne m d (by decide)

end

/-- The running sum is the sum. -/
theorem sumTo_eq (E : S100000x128.Idx → EReal) (w : Fin 4 → Fin 50 → BitVec 32) (j : Fin 128) (n : ℕ) :
    sumTo (F := Ideal) E w j n = ∑ k : Fin n, E (ix2 (rowOf (w (Fin.ofNat 4 (k.val / 50)) (Fin.ofNat 50 k.val))) j) := by
  induction n with
  | zero => exact Ideal.ofBits_zero_f32
  | succ n ih => rw [Fin.sum_univ_castSucc]; exact congrArg (· + _) ih

/-- The length as a number. -/
theorem len_eq : Ideal.ofBits .f32 0x43480000#32 = ((200 : ℝ) : EReal) := by
  simp [Ideal.ofBits, Ideal.ieee, -EReal.coe_mul]; norm_num

/-- The named reciprocal times a sum is the sum divided by the length. -/
theorem scaled_eq (s : EReal) : FloatOps.mulf (F := Ideal) (φ := .f32) s (Named.named κ "inv_len" 0x3BA3D70A#32) = Ideal.div s (Ideal.ofBits .f32 0x43480000#32) := by
  rw [len_eq, Ideal.div_coe (by norm_num : (200 : ℝ) ≠ 0), IdealRules.named_const.ideal_named_scalar _ _ _ _ rfl]
  rw [one_div]; rfl

/-- With indices inside the table, the pooled rows are the means of the looked-up rows. -/
theorem pooled_eq (m : (ℓ : Loc nD τ sig) → Buf (Elt Ideal) ℓ) (d : Dev nD)
    (h : ∀ i, ((m ((T d : Thread nD τ).loc main_arg0) : S4096x200.Idx → BitVec 32) i).toNat < 100000) (r : Fin 4096) (j : Fin 128) :
    pooled (F := Ideal) (Et m d) (Xt m d) (ix2 r j)
      = Reference.mean (Reference.taken (m ((T d : Thread nD τ).loc main_arg1)) (m ((T d : Thread nD τ).loc main_arg0))) (ix2 r j) := by
  rw [Reference.mean_apply]
  show FloatOps.mulf (F := Ideal) (φ := .f32) (sumTo (F := Ideal) (Et m d) (fun q e => Xt m d (ix3 r q e)) j 200) (Named.named κ "inv_len" 0x3BA3D70A#32) = _
  rw [scaled_eq, sumTo_eq]
  refine congrArg (Ideal.div · _) (Finset.sum_congr rfl fun k _ => ?_)
  rw [Reference.taken_apply _ _ h, Xt_apply, Et_eq]
  exact congrArg (fun a : Fin 100000 => (m ((T d : Thread nD τ).loc main_arg1) : S100000x128.Idx → EReal) (ix2 a j)) (Fin.ext (rowOf_of_lt _ (h _)))

/-! ## The domain -/

/-- The word of infinity. -/
theorem ofBits_inf : Ideal.ofBits .f32 0x7F800000#32 = ⊤ := by
  simp [Ideal.ofBits, Ideal.ieee]

/-- An element whose magnitude is below infinity is a real number. -/
theorem real_of_lt (x : EReal) (h : decide (max x (-x) < Ideal.ofBits .f32 0x7F800000#32) = true) : ∃ q : ℝ, x = (q : EReal) := by
  have h := of_decide_eq_true h
  rw [ofBits_inf] at h
  induction x with
  | bot => exact absurd h (by simp)
  | top => exact absurd h (by simp)
  | coe q => exact ⟨q, rfl⟩

/-- What the domain says of one entry of a normalisation's parameters. -/
theorem entry_of (b g rm rv : EReal)
    (e : IntOp.andi (IntOp.andi (IntOp.andi (Ideal.cmp .olt (max b (-b)) (Ideal.ofBits .f32 0x7F800000#32)) (Ideal.cmp .olt (max g (-g)) (Ideal.ofBits .f32 0x7F800000#32)))
      (Ideal.cmp .olt (max rm (-rm)) (Ideal.ofBits .f32 0x7F800000#32))) (Ideal.cmp .ogt (rv + eps) (Ideal.ofBits .f32 0x00000000#32)) = 1#1) :
    (∃ q : ℝ, b = (q : EReal)) ∧ (∃ q : ℝ, g = (q : EReal)) ∧ (∃ q : ℝ, rm = (q : EReal)) ∧ 0 < rv + eps := by
  have h4 : ∀ p q r s : Bool, IntOp.andi (IntOp.andi (IntOp.andi (BitVec.ofBool p) (BitVec.ofBool q)) (BitVec.ofBool r)) (BitVec.ofBool s) = 1#1 →
      p = true ∧ q = true ∧ r = true ∧ s = true := by decide
  obtain ⟨h0, h1, h2, h3⟩ := h4 _ _ _ _ e
  have h3 : Ideal.ofBits .f32 0x00000000#32 < rv + eps := of_decide_eq_true h3
  rw [Ideal.ofBits_zero_f32] at h3
  exact ⟨real_of_lt b h0, real_of_lt g h1, real_of_lt rm h2, h3⟩

/-- On such an entry the two normalised elements agree. -/
theorem act_of (h b g be rm rv : EReal) (e : (∃ q : ℝ, b = (q : EReal)) ∧ (∃ q : ℝ, g = (q : EReal)) ∧ (∃ q : ℝ, rm = (q : EReal)) ∧ 0 < rv + eps) :
    actK h b g be rm rv = act h b g be rm rv := by
  obtain ⟨⟨b, rfl⟩, ⟨g, rfl⟩, ⟨rm, rfl⟩, hv⟩ := e
  exact act_eq h be rv b g rm hv

attribute [local instance] Cert.Pre_in_domain.Gen.facts Cert.ReferenceIdeal.Gen.facts

variable (m : (ℓ : Loc nD τ sig) → Buf (Elt Ideal) ℓ)

/-- The reference's layers of the kernel's arguments. -/
def refOut (d : Dev nD) : S4096x11.Idx → EReal :=
  Reference.layer3 (Reference.layer2 (Reference.layer1 (Reference.mean (Reference.taken (m ((T d : Thread nD τ).loc main_arg1)) (m ((T d : Thread nD τ).loc main_arg0))))
      (m ((T d : Thread nD τ).loc main_arg2)) (m ((T d : Thread nD τ).loc main_arg3)) (m ((T d : Thread nD τ).loc main_arg4)) (m ((T d : Thread nD τ).loc main_arg5)) (m ((T d : Thread nD τ).loc main_arg6)) (m ((T d : Thread nD τ).loc main_arg7)))
    (m ((T d : Thread nD τ).loc main_arg8)) (m ((T d : Thread nD τ).loc main_arg9)) (m ((T d : Thread nD τ).loc main_arg10)) (m ((T d : Thread nD τ).loc main_arg11)) (m ((T d : Thread nD τ).loc main_arg12)) (m ((T d : Thread nD τ).loc main_arg13)))
    (m ((T d : Thread nD τ).loc main_arg14)) (m ((T d : Thread nD τ).loc main_arg15))

/-- On the domain the kernel's result is the reference's. -/
theorem result_ref (hpre : Cert.Pre_KernelIdeal_in_domain m) (d : Dev nD) : (val4 m d main_v15 : S4096x11.Idx → EReal) = refOut m d := by
  have hx : ∀ i, ((m ((T d : Thread nD τ).loc main_arg0) : S4096x200.Idx → BitVec 32) i).toNat < 100000 := fun i => word_lt _ (congrFun (hpre d).1 i)
  have d1 := fun l : Fin 512 => entry_of (m ((T d : Thread nD τ).loc main_arg3) (ix1 l)) (m ((T d : Thread nD τ).loc main_arg4) (ix1 l))
    (m ((T d : Thread nD τ).loc main_arg6) (ix1 l)) (m ((T d : Thread nD τ).loc main_arg7) (ix1 l)) (congrFun (hpre d).2.1 (ix1 l))
  have d2 := fun k : Fin 256 => entry_of (m ((T d : Thread nD τ).loc main_arg9) (ix1 k)) (m ((T d : Thread nD τ).loc main_arg10) (ix1 k))
    (m ((T d : Thread nD τ).loc main_arg12) (ix1 k)) (m ((T d : Thread nD τ).loc main_arg13) (ix1 k)) (congrFun (hpre d).2.2 (ix1 k))
  rw [regIn_out, outArr_eq]
  funext o
  obtain ⟨r, hr⟩ : ∃ r : Fin 4096, r = o 0 := ⟨_, rfl⟩
  obtain ⟨j, hj⟩ : ∃ j : Fin 11, j = o 1 := ⟨_, rfl⟩
  rw [show o = ix2 r j by rw [hr, hj]; exact eq_ix2 (n0 := 4096) (n1 := 11) o]
  unfold refOut
  rw [Reference.layer3_apply]
  unfold netW
  rw [regIn_v1, regIn_v7, regIn_v13, regIn_arg m d (b := main_arg2) (by decide), regIn_arg m d (b := main_arg8) (by decide), regIn_arg m d (b := main_arg14) (by decide)]
  unfold net
  refine congrArg₂ (· + ·) (Finset.sum_congr rfl fun k _ => congrArg (· * _) ?_) (regIn_v14 m d j)
  obtain ⟨s0, s1, s2, s3, s4⟩ := stack2_apply (F := Ideal) (m ((T d : Thread nD τ).loc main_arg9)) (m ((T d : Thread nD τ).loc main_arg10)) (m ((T d : Thread nD τ).loc main_arg11))
    (m ((T d : Thread nD τ).loc main_arg12)) (m ((T d : Thread nD τ).loc main_arg13)) k
  rw [Reference.layer2_apply, ← act_of _ _ _ _ _ _ (d2 k)]
  refine actK_congr (Finset.sum_congr rfl fun l _ => congrArg (· * _) ?_) s0 s1 s2 s3 s4
  obtain ⟨s0, s1, s2, s3, s4⟩ := stack1_apply (F := Ideal) (m ((T d : Thread nD τ).loc main_arg3)) (m ((T d : Thread nD τ).loc main_arg4)) (m ((T d : Thread nD τ).loc main_arg5))
    (m ((T d : Thread nD τ).loc main_arg6)) (m ((T d : Thread nD τ).loc main_arg7)) l
  rw [Reference.layer1_apply, ← act_of _ _ _ _ _ _ (d1 l)]
  exact actK_congr (Finset.sum_congr rfl fun i _ => congrArg (· * _) (pooled_eq m d hx r i)) s0 s1 s2 s3 s4

/-- Kernel and reference compute one function on the domain. -/
theorem algebraic : Cert.algebraic_KernelIdeal_ReferenceIdeal_pre_in_domain := by
  intro m g m' g' hpre heq
  refine ⟨fun c => val4 m c main_v15, (θ_run (Cert.KernelIdeal.defs (F := Ideal)) _ _).mono (fun _ h c => ⟨h.1 c _ (mem_plainRefs main_v15 rfl), kept_of_end m c (h.1 c)⟩)
    (run_domain m g hpre), (θ_run (Cert.ReferenceIdeal.defs (F := Ideal)) _ _).mono (fun _ h c => ⟨(h c).1.trans ?_, (h c).2⟩) (Cert.ReferenceIdeal.Value.run (F := Ideal) m' g')⟩
  refine Eq.trans ?_ (result_ref m hpre c).symm
  obtain ⟨e0, e1, e2, e3, e4, e5, e6, e7, e8, e9, e10, e11, e12, e13, e14, e15⟩ := heq c
  rw [Reference.result_eq, e0, e1, e2, e3, e4, e5, e6, e7, e8, e9, e10, e11, e12, e13, e14, e15]
  rfl

end Cert.Proof.Lookup
-- ==== Proof.lean ====
/-
  The claims, from the modules that prove them.
-/
module

public import proofs.«01_k».proof.Proof.Value

@[expose] public section

noncomputable section

namespace Cert.Proof

open Cert.Proof.Lookup

theorem claim : Cert.Claim :=
  ⟨Cert.Kernel.Gen.facts, Cert.KernelIdeal.Gen.facts, Cert.ReferenceIdeal.Gen.facts, Cert.Pre_idx_in_vocab.Gen.facts, Cert.Pre_in_domain.Gen.facts,
    frame_bits, frame_ideal, frame_domain, frame_ref, frame_ref_domain, named_len, algebraic⟩

end Cert.Proof

end
